-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands_KernelIdeal [hPre_finite_operands_KernelIdeal : Cert.Pre_finite_operands_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_operands_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_operands_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands_ReferenceIdeal [hPre_finite_operands_ReferenceIdeal : Cert.Pre_finite_operands_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_operands_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_operands_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_operands_KernelIdeal [hKernelIdeal : Cert.KernelIdeal.Facts] [hPre_finite_operands_KernelIdeal : Cert.Pre_finite_operands_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_operands_ReferenceIdeal [hReferenceIdeal : Cert.ReferenceIdeal.Facts] [hPre_finite_operands_ReferenceIdeal : Cert.Pre_finite_operands_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_operands_KernelIdeal [hKernelIdeal : Cert.KernelIdeal.Facts] [hReferenceIdeal : Cert.ReferenceIdeal.Facts] [hPre_finite_operands_KernelIdeal : Cert.Pre_finite_operands_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 2048, 2, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 2048, 2, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_operands_KernelIdeal : Cert.Pre_finite_operands_KernelIdeal.Facts) (hPre_finite_operands_ReferenceIdeal : Cert.Pre_finite_operands_ReferenceIdeal.Facts),
    quiescent_Kernel (hKernel := hKernel)
    ∧ quiescent_KernelIdeal (hKernelIdeal := hKernelIdeal)
    ∧ quiescent_KernelIdeal_pre_finite_operands_KernelIdeal (hKernelIdeal := hKernelIdeal) (hPre_finite_operands_KernelIdeal := hPre_finite_operands_KernelIdeal)
    ∧ quiescent_ReferenceIdeal (hReferenceIdeal := hReferenceIdeal)
    ∧ quiescent_ReferenceIdeal_pre_finite_operands_ReferenceIdeal (hReferenceIdeal := hReferenceIdeal) (hPre_finite_operands_ReferenceIdeal := hPre_finite_operands_ReferenceIdeal)
    ∧ preserves_Kernel_KernelIdeal
    ∧ algebraic_KernelIdeal_ReferenceIdeal_pre_finite_operands_KernelIdeal (hKernelIdeal := hKernelIdeal) (hReferenceIdeal := hReferenceIdeal) (hPre_finite_operands_KernelIdeal := hPre_finite_operands_KernelIdeal)
-- ==== Pre_finite_operands_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x2x64 : S_.BroadcastsInDim S2x128x2x64 (![] : Fin 0 → Fin S2x128x2x64.rank)

variable [Facts]

def fn {F : FTy → Type} [FloatOps F] (main_arg0 : FVec F S2x128x512 .f32) (main_arg1 : FVec F S512x512 .f32) (main_arg2 : FVec F S2x128x2x64 .f32) (main_arg3 : FVec F S2x128x2x64 .f32) (main_arg4 : FVec F S512x512 .f32) : IVec S2x128x512 1 × IVec S512x512 1 × IVec S2x128x2x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S2x128x2x64 .f32 := Host.absf main_arg2
  let main_cst_1 : FVec F S_ .f32 := constant S_ .f32 0x7F800000#32
  let main_v7 : FVec F S2x128x2x64 .f32 := broadcastInDim S2x128x2x64 ![] bcast_S_S2x128x2x64 main_cst_1
  let main_v8 : IVec S2x128x2x64 1 := cmpf .olt main_v6 main_v7
  (main_v2, main_v5, main_v8)
-- ==== Pre_finite_operands_ReferenceIdeal.lean ====
abbrev S2x128x512 : Shape := ⟨3, ![2, 128, 512]⟩
abbrev S512x512 : Shape := ⟨2, ![512, 512]⟩
abbrev S2x2048x2x64 : Shape := ⟨4, ![2, 2048, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x2048x2x64 : S_.BroadcastsInDim S2x2048x2x64 (![] : Fin 0 → Fin S2x2048x2x64.rank)

variable [Facts]

def fn {F : FTy → Type} [FloatOps F] (main_arg0 : FVec F S2x128x512 .f32) (main_arg1 : FVec F S512x512 .f32) (main_arg2 : FVec F S2x2048x2x64 .f32) (main_arg3 : FVec F S2x2048x2x64 .f32) (main_arg4 : FVec F S512x512 .f32) : IVec S2x128x512 1 × IVec S512x512 1 × IVec S2x2048x2x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S2x2048x2x64 .f32 := Host.absf main_arg2
  let main_cst_1 : FVec F S_ .f32 := constant S_ .f32 0x7F800000#32
  let main_v7 : FVec F S2x2048x2x64 .f32 := broadcastInDim S2x2048x2x64 ![] bcast_S_S2x2048x2x64 main_cst_1
  let main_v8 : IVec S2x2048x2x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S2x2x64x512 : Shape := ⟨4, ![2, 2, 64, 512]⟩
abbrev S2x2x2x1x512 : Shape := ⟨5, ![2, 2, 2, 1, 512]⟩
abbrev S8x2x64x512 : Shape := ⟨4, ![8, 2, 64, 512]⟩
abbrev S8x2x2x1x512 : Shape := ⟨5, ![8, 2, 2, 1, 512]⟩
abbrev S2x2x128x64 : Shape := ⟨4, ![2, 2, 128, 64]⟩
abbrev S2x2x512x64 : Shape := ⟨4, ![2, 2, 512, 64]⟩
abbrev S512x128 : Shape := ⟨2, ![512, 128]⟩
abbrev S4x2 : Shape := ⟨2, ![4, 2]⟩
abbrev S_ : Shape := ⟨0, ![]⟩
abbrev S1x128x1x64 : Shape := ⟨4, ![1, 128, 1, 64]⟩
abbrev S128x64 : Shape := ⟨2, ![128, 64]⟩
abbrev S1x1x128x64 : Shape := ⟨4, ![1, 1, 128, 64]⟩
abbrev S1x128x512 : Shape := ⟨3, ![1, 128, 512]⟩
abbrev S128x512 : Shape := ⟨2, ![128, 512]⟩
abbrev S1x2x128x64 : Shape := ⟨4, ![1, 2, 128, 64]⟩
abbrev S2x128x64 : Shape := ⟨3, ![2, 128, 64]⟩
abbrev S1x2x512x64 : Shape := ⟨4, ![1, 2, 512, 64]⟩
abbrev S2x512x64 : Shape := ⟨3, ![2, 512, 64]⟩
abbrev S2x512 : Shape := ⟨2, ![2, 512]⟩
abbrev S2x1x512 : Shape := ⟨3, ![2, 1, 512]⟩
abbrev S2x64x512 : Shape := ⟨3, ![2, 64, 512]⟩
abbrev S1x2x64x512 : Shape := ⟨4, ![1, 2, 64, 512]⟩
abbrev S1x1x2x1x512 : Shape := ⟨5, ![1, 1, 2, 1, 512]⟩
abbrev S1x1 : Shape := ⟨2, ![1, 1]⟩
abbrev S1x2x2x1x512 : Shape := ⟨5, ![1, 2, 2, 1, 512]⟩
abbrev S2x2x1x512 : Shape := ⟨4, ![2, 2, 1, 512]⟩
abbrev S1x1x1x1x128 : Shape := ⟨5, ![1, 1, 1, 1, 128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 6
  | .vmem => 15
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x2x64, .f32⟩
  | .hbm, ⟨3, _⟩ => ⟨S2x128x2x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x2x64, .f32⟩
  | .local _ .vmem, ⟨4, _⟩ => ⟨S2x128x2x64, .f32⟩
  | .local _ .vmem, ⟨5, _⟩ => ⟨S2x128x512, .f32⟩
  | .local _ .vmem, ⟨6, _⟩ => ⟨S2x2x64x512, .f32⟩
  | .local _ .vmem, ⟨7, _⟩ => ⟨S2x2x2x1x512, .f32⟩
  | .local _ .vmem, ⟨8, _⟩ => ⟨S2x2x64x512, .bf16⟩
  | .local _ .vmem, ⟨9, _⟩ => ⟨S8x2x64x512, .bf16⟩
  | .local _ .vmem, ⟨10, _⟩ => ⟨S8x2x2x1x512, .f32⟩
  | .local _ .vmem, ⟨11, _⟩ => ⟨S2x2x128x64, .f32⟩
  | .local _ .vmem, ⟨12, _⟩ => ⟨S2x2x128x64, .f32⟩
  | .local _ .vmem, ⟨13, _⟩ => ⟨S2x2x512x64, .f32⟩
  | .local _ .vmem, ⟨14, _⟩ => ⟨S512x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_108 : BitVec 32 := 1#32
  let v99 : BitVec 32 := Scalar.xori v2 c1_i32_108
  let c1_i32_123 : BitVec 32 := 1#32
  let v106 : BitVec 32 := Scalar.muli v99 c1_i32_123
  let v107 : BitVec 32 := Scalar.addi c0_i32_124 v106
  v107.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_108 : BitVec 32 := 1#32
  let v99 : BitVec 32 := Scalar.xori v2 c1_i32_108
  let c1_i32_139 : BitVec 32 := 1#32
  let v116 : BitVec 32 := Scalar.muli v99 c1_i32_139
  let v117 : BitVec 32 := Scalar.addi c0_i32_140 v116
  v117.toNat
def k0_dev7 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_248 : BitVec 32 := 1#32
  let v209 : BitVec 32 := Scalar.xori v2 c1_i32_248
  let c1_i32_263 : BitVec 32 := 1#32
  let v216 : BitVec 32 := Scalar.muli v209 c1_i32_263
  let v217 : BitVec 32 := Scalar.addi c0_i32_264 v216
  v217.toNat
def k0_dev8 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_248 : BitVec 32 := 1#32
  let v209 : BitVec 32 := Scalar.xori v2 c1_i32_248
  let c1_i32_279 : BitVec 32 := 1#32
  let v226 : BitVec 32 := Scalar.muli v209 c1_i32_279
  let v227 : BitVec 32 := Scalar.addi c0_i32_280 v226
  v227.toNat
def k0_dev9 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_395 : BitVec 32 := 3#32
  let v304 : BitVec 32 := Scalar.xori v2 c3_i32_395
  let c1_i32_409 : BitVec 32 := 1#32
  let v311 : BitVec 32 := Scalar.muli v304 c1_i32_409
  let v312 : BitVec 32 := Scalar.addi c0_i32_410 v311
  v312.toNat
def k0_dev10 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_395 : BitVec 32 := 3#32
  let v304 : BitVec 32 := Scalar.xori v2 c3_i32_395
  let c1_i32_425 : BitVec 32 := 1#32
  let v321 : BitVec 32 := Scalar.muli v304 c1_i32_425
  let v322 : BitVec 32 := Scalar.addi c0_i32_426 v321
  v322.toNat
def k0_dev11 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_541 : BitVec 32 := 3#32
  let v399 : BitVec 32 := Scalar.xori v2 c3_i32_541
  let c1_i32_556 : BitVec 32 := 1#32
  let v406 : BitVec 32 := Scalar.muli v399 c1_i32_556
  let v407 : BitVec 32 := Scalar.addi c0_i32_557 v406
  v407.toNat
def k0_dev12 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_541 : BitVec 32 := 3#32
  let v399 : BitVec 32 := Scalar.xori v2 c3_i32_541
  let c1_i32_572 : BitVec 32 := 1#32
  let v416 : BitVec 32 := Scalar.muli v399 c1_i32_572
  let v417 : BitVec 32 := Scalar.addi c0_i32_573 v416
  v417.toNat
def k0_dev13 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_687 : BitVec 32 := 4#32
  let v494 : BitVec 32 := Scalar.xori v2 c4_i32_687
  let c1_i32_702 : BitVec 32 := 1#32
  let v501 : BitVec 32 := Scalar.muli v494 c1_i32_702
  let v502 : BitVec 32 := Scalar.addi c0_i32_703 v501
  v502.toNat
def k0_dev14 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_687 : BitVec 32 := 4#32
  let v494 : BitVec 32 := Scalar.xori v2 c4_i32_687
  let c1_i32_718 : BitVec 32 := 1#32
  let v511 : BitVec 32 := Scalar.muli v494 c1_i32_718
  let v512 : BitVec 32 := Scalar.addi c0_i32_719 v511
  v512.toNat
def k0_dev15 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_833 : BitVec 32 := 4#32
  let v589 : BitVec 32 := Scalar.xori v2 c4_i32_833
  let c1_i32_847 : BitVec 32 := 1#32
  let v596 : BitVec 32 := Scalar.muli v589 c1_i32_847
  let v597 : BitVec 32 := Scalar.addi c0_i32_848 v596
  v597.toNat
def k0_dev16 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_833 : BitVec 32 := 4#32
  let v589 : BitVec 32 := Scalar.xori v2 c4_i32_833
  let c1_i32_863 : BitVec 32 := 1#32
  let v606 : BitVec 32 := Scalar.muli v589 c1_i32_863
  let v607 : BitVec 32 := Scalar.addi c0_i32_864 v606
  v607.toNat
def k0_dev17 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_978 : BitVec 32 := 8#32
  let v684 : BitVec 32 := Scalar.xori v2 c8_i32_978
  let c1_i32_992 : BitVec 32 := 1#32
  let v691 : BitVec 32 := Scalar.muli v684 c1_i32_992
  let v692 : BitVec 32 := Scalar.addi c0_i32_993 v691
  v692.toNat
def k0_dev18 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_978 : BitVec 32 := 8#32
  let v684 : BitVec 32 := Scalar.xori v2 c8_i32_978
  let c1_i32_1008 : BitVec 32 := 1#32
  let v701 : BitVec 32 := Scalar.muli v684 c1_i32_1008
  let v702 : BitVec 32 := Scalar.addi c0_i32_1009 v701
  v702.toNat
def k0_dev19 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1123 : BitVec 32 := 8#32
  let v779 : BitVec 32 := Scalar.xori v2 c8_i32_1123
  let c1_i32_1137 : BitVec 32 := 1#32
  let v786 : BitVec 32 := Scalar.muli v779 c1_i32_1137
  let v787 : BitVec 32 := Scalar.addi c0_i32_1138 v786
  v787.toNat
def k0_dev20 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1123 : BitVec 32 := 8#32
  let v779 : BitVec 32 := Scalar.xori v2 c8_i32_1123
  let c1_i32_1153 : BitVec 32 := 1#32
  let v796 : BitVec 32 := Scalar.muli v779 c1_i32_1153
  let v797 : BitVec 32 := Scalar.addi c0_i32_1154 v796
  v797.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x2048x2x64 : Shape := ⟨4, ![2, 2048, 2, 64]⟩
abbrev S2x128x8x64 : Shape := ⟨4, ![2, 128, 8, 64]⟩
abbrev S2x2048x2x4x64 : Shape := ⟨5, ![2, 2048, 2, 4, 64]⟩
abbrev S2x2048x8x64 : Shape := ⟨4, ![2, 2048, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 74
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x2048x2x64, .f32⟩
  | .hbm, ⟨3, _⟩ => ⟨S2x2048x2x64, .f32⟩
  | .hbm, ⟨4, _⟩ => ⟨S512x512, .f32⟩
  | .hbm, ⟨5, _⟩ => ⟨S2x128x512, .f32⟩
  | .hbm, ⟨6, _⟩ => ⟨S2x128x8x64, .f32⟩
  | .hbm, ⟨7, _⟩ => ⟨S2x2048x2x4x64, .f32⟩
  | .hbm, ⟨8, _⟩ => ⟨S2x2048x8x64, .f32⟩
  | .hbm, ⟨9, _⟩ => ⟨S2x2048x2x4x64, .f32⟩
  | .hbm, ⟨10, _⟩ => ⟨S2x2048x8x64, .f32⟩
  | .hbm, ⟨11, _⟩ => ⟨S_, .f32⟩
  | .hbm, ⟨12, _⟩ => ⟨S2x128x8x64, .f32⟩
  | .hbm, ⟨13, _⟩ => ⟨S_, .f32⟩
  | .hbm, ⟨14, _⟩ => ⟨S2x8x128x1, .f32⟩
  | .hbm, ⟨15, _⟩ => ⟨S_, .f32⟩
  | .hbm, ⟨16, _⟩ => ⟨S2x8x128x1, .f32⟩
  | .hbm, ⟨17, _⟩ => ⟨S2x1024x8x64, .f32⟩
  | .hbm, ⟨18, _⟩ => ⟨S2x1024x8x64, .f32⟩
  | .hbm, ⟨19, _⟩ => ⟨S2x8x128x1024, .f32⟩
  | .hbm, ⟨20, _⟩ => ⟨S_, .f32⟩
  | .hbm, ⟨21, _⟩ => ⟨S2x8x128x1024, .f32⟩
  | .hbm, ⟨22, _⟩ => ⟨S2x8x128x1024, .f32⟩
  | .hbm, ⟨23, _⟩ => ⟨S_, .f32⟩
  | .hbm, ⟨24, _⟩ => ⟨S2x8x128, .f32⟩
  | .hbm, ⟨25, _⟩ => ⟨S2x8x128x1, .f32⟩
  | .hbm, ⟨26, _⟩ => ⟨S2x8x128x1, .f32⟩
  | .hbm, ⟨27, _⟩ => ⟨S2x8x128x1, .f32⟩
  | .hbm, ⟨28, _⟩ => ⟨S2x8x128x1, .f32⟩
  | .hbm, ⟨29, _⟩ => ⟨S2x8x128x1024, .f32⟩
  | .hbm, ⟨30, _⟩ => ⟨S2x8x128x1024, .f32⟩
  | .hbm, ⟨31, _⟩ => ⟨S2x8x128x1024, .f32⟩
  | .hbm, ⟨32, _⟩ => ⟨S2x8x128x1, .f32⟩
  | .hbm, ⟨33, _⟩ => ⟨S_, .f32⟩
  | .hbm, ⟨34, _⟩ => ⟨S2x8x128, .f32⟩
  | .hbm, ⟨35, _⟩ => ⟨S2x8x128x1, .f32⟩
  | .hbm, ⟨36, _⟩ => ⟨S2x8x128x1, .f32⟩
  | .hbm, ⟨37, _⟩ => ⟨S2x128x8x1, .f32⟩
  | .hbm, ⟨38, _⟩ => ⟨S2x128x8x64, .f32⟩
  | .hbm, ⟨39, _⟩ => ⟨S2x128x8x64, .f32⟩
  | .hbm, ⟨40, _⟩ => ⟨S2x8x64x128, .f32⟩
  | .hbm, ⟨41, _⟩ => ⟨S2x128x8x64, .f32⟩
  | .hbm, ⟨42, _⟩ => ⟨S2x128x8x64, .f32⟩
  | .hbm, ⟨43, _⟩ => ⟨S2x1024x8x64, .f32⟩
  | .hbm, ⟨44, _⟩ => ⟨S2x1024x8x64, .f32⟩
  | .hbm, ⟨45, _⟩ => ⟨S2x8x128x1024, .f32⟩
  | .hbm, ⟨46, _⟩ => ⟨S_, .f32⟩
  | .hbm, ⟨47, _⟩ => ⟨S2x8x128x1024, .f32⟩
  | .hbm, ⟨48, _⟩ => ⟨S2x8x128x1024, .f32⟩
  | .hbm, ⟨49, _⟩ => ⟨S_, .f32⟩
  | .hbm, ⟨50, _⟩ => ⟨S2x8x128, .f32⟩
  | .hbm, ⟨51, _⟩ => ⟨S2x8x128x1, .f32⟩
  | .hbm, ⟨52, _⟩ => ⟨S2x8x128x1, .f32⟩
  | .hbm, ⟨53, _⟩ => ⟨S2x8x128x1, .f32⟩
  | .hbm, ⟨54, _⟩ => ⟨S2x8x128x1, .f32⟩
  | .hbm, ⟨55, _⟩ => ⟨S2x8x128x1024, .f32⟩
  | .hbm, ⟨56, _⟩ => ⟨S2x8x128x1024, .f32⟩
  | .hbm, ⟨57, _⟩ => ⟨S2x8x128x1024, .f32⟩
  | .hbm, ⟨58, _⟩ => ⟨S2x8x128x1, .f32⟩
  | .hbm, ⟨59, _⟩ => ⟨S_, .f32⟩
  | .hbm, ⟨60, _⟩ => ⟨S2x8x128, .f32⟩
  | .hbm, ⟨61, _⟩ => ⟨S2x8x128x1, .f32⟩
  | .hbm, ⟨62, _⟩ => ⟨S2x8x128x1, .f32⟩
  | .hbm, ⟨63, _⟩ => ⟨S2x128x8x1, .f32⟩
  | .hbm, ⟨64, _⟩ => ⟨S2x128x8x64, .f32⟩
  | .hbm, ⟨65, _⟩ => ⟨S2x128x8x64, .f32⟩
  | .hbm, ⟨66, _⟩ => ⟨S2x8x64x128, .f32⟩
  | .hbm, ⟨67, _⟩ => ⟨S2x128x8x64, .f32⟩
  | .hbm, ⟨68, _⟩ => ⟨S2x128x8x64, .f32⟩
  | .hbm, ⟨69, _⟩ => ⟨S2x128x8x1, .f32⟩
  | .hbm, ⟨70, _⟩ => ⟨S2x128x8x64, .f32⟩
  | .hbm, ⟨71, _⟩ => ⟨S2x128x8x64, .f32⟩
  | .hbm, ⟨72, _⟩ => ⟨S2x128x512, .f32⟩
  | .hbm, ⟨73, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Held.lean ====
/-
  A region of a buffer held with a fact about its contents. A scratch buffer of the kernel is used slot by slot, and a slot
  is read and filled by parts; a slot is therefore held as: some contents, of which the buffer's memref reads a value
  satisfying a given property, owned on a given set of elements. The rules below load, store, send and wait at that form.
-/
module

public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ViewIndex

@[expose] public section

noncomputable section

namespace Cert.Held

open Idealize.ShloMosaic Idealize.SL Idealize.SL.RA Idealize.SL.BI Idealize.SL.Sem
open scoped Idealize.SL.BI
open Idealize.SL.BI.BIBase Idealize.SL.BI.Laws Idealize.SL.ProofMode
open Idealize.ShloMosaic.Ring (pointsTo_blocks pointsTo_blocks_join_exists)

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

section Def
variable (c : Dev nD) {sp : Space} {s : Shape} {e : EltTy} (m : Memref sig .tc sp s e)
  (S : Finset m.view.ty.Idx) (φ : (s.Idx → Val e) → Prop)

/-- The elements `S` of the buffer of `m` on device `c`, whole, at contents that `m` reads as a value satisfying `φ`. -/
def Held : sProp 𝕄 :=
  iprop(∃ f : Buf Val (m.view.loc (c.tc : Thread nD τ)), ⌜φ (m.view.read Val f)⌝ ∗ (m.view.loc (c.tc : Thread nD τ) ↦[S]{fullShare} f))

instance : BI.Storable (upEmb : UEmb _ 𝕄) (Held (τ := τ) (Ix := Ix) (Name := Name) (U := U) (Lvl := Lvl) c m S φ) := by
  unfold Held; infer_instance

variable {c m S φ}

theorem Held.mono {ψ : (s.Idx → Val e) → Prop} (h : ∀ g, φ g → ψ g) :
    (Held c m S φ : sProp 𝕄) ⊢ Held c m S ψ := by
  unfold Held
  iintro ⟨%f, %hf, H⟩
  iexists f
  isplitr
  · ipureintro; exact h _ hf
  · iexact H

theorem Held.intro (f : Buf Val (m.view.loc (c.tc : Thread nD τ))) (h : φ (m.view.read Val f)) :
    ((m.view.loc (c.tc : Thread nD τ) ↦[S]{fullShare} f) : sProp 𝕄) ⊢ Held c m S φ := by
  unfold Held
  iintro H
  iexists f
  isplitr
  · ipureintro; exact h
  · iexact H

end Def

section Rules
variable [Preorder Lvl] {defs : Defs nD τ sig Val Λ} (𝒱 : Variants) (c : Dev nD) (bd : Option 𝒱.V) (E : Set Name)
variable {s : Shape} {e : EltTy} {α : Type} {Q : α → sProp (MT nD τ sig Ix Val Name U Lvl)}

/-- A load of a rectangle whose value the held fact determines. -/
theorem load {cs : CoreSpace} {m : Memref sig .tc cs s e} {r : Rect s} {hl : m.view.LoadsAt r.toLoadRect}
    {k : (r.shape.Idx → Val e) → Prog (TpuEff nD τ sig Val Λ .tc) α} {S : Finset m.view.ty.Idx} {φ : (s.Idx → Val e) → Prop}
    (v : r.shape.Idx → Val e) (hS : (m.access r).set ⊆ S) (hv : ∀ g, φ g → (fun j => g (r.emb j)) = v) :
    (Held c m S φ : sProp 𝕄)
      ⊢ iprop((Held c m S φ -∗ wp frame (wpE defs 𝒱 (c.tc : Thread nD τ) bd) E (k v) Q)
        -∗ wp frame (wpE defs 𝒱 (c.tc : Thread nD τ) bd) E (.op (.load m r.toLoadRect hl) k) Q) := by
  unfold Held
  iintro ⟨%f, %hf, H⟩ Hk
  iapply (wp_load_rect 𝒱 (c.tc : Thread nD τ) bd E (m := m) (r := r) (hl := hl) (k := k) (S := S) (q := fullShare) (f := f) hS) $$ H
  iintro H
  have e1 : (m.access r).read Val f = v := hv _ hf
  rw [e1]
  iapply Hk
  iexists f
  isplitr
  · ipureintro; exact hf
  · iexact H

/-- A load whose value is not used. -/
theorem load_ {cs : CoreSpace} {m : Memref sig .tc cs s e} {r : Rect s} {hl : m.view.LoadsAt r.toLoadRect}
    {k : Prog (TpuEff nD τ sig Val Λ .tc) α} {S : Finset m.view.ty.Idx} {φ : (s.Idx → Val e) → Prop}
    (hS : (m.access r).set ⊆ S) :
    (Held c m S φ : sProp 𝕄)
      ⊢ iprop((Held c m S φ -∗ wp frame (wpE defs 𝒱 (c.tc : Thread nD τ) bd) E k Q)
        -∗ wp frame (wpE defs 𝒱 (c.tc : Thread nD τ) bd) E (.op (.load m r.toLoadRect hl) fun _ => k) Q) := by
  unfold Held
  iintro ⟨%f, %hf, H⟩ Hk
  iapply (wp_load_rect 𝒱 (c.tc : Thread nD τ) bd E (m := m) (r := r) (hl := hl) (k := fun _ => k) (S := S) (q := fullShare) (f := f) hS) $$ H
  iintro H
  iapply Hk
  iexists f
  isplitr
  · ipureintro; exact hf
  · iexact H

/-- A store of a rectangle: the new contents read the stored value there and the old ones elsewhere. -/
theorem store {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} {S : Finset m.view.ty.Idx} {φ : (s.Idx → Val e) → Prop}
    (ψ : (s.Idx → Val e) → Prop) (hS : (m.access r).set ⊆ S)
    (hψ : ∀ g g', φ g → (∀ j, g' (r.emb j) = w j) → (∀ i, i ∉ r.set → g' i = g i) → ψ g') :
    (Held c m S φ : sProp 𝕄)
      ⊢ iprop((Held c m S ψ -∗ wp frame (wpE defs 𝒱 (c.tc : Thread nD τ) bd) E (k ⟨⟩) Q)
        -∗ wp frame (wpE defs 𝒱 (c.tc : Thread nD τ) bd) E (.op (.store m r w Finset.univ hx hm) k) Q) := by
  unfold Held
  iintro ⟨%f, %hf, H⟩ Hk
  iapply (wp_store 𝒱 (c.tc : Thread nD τ) bd E (m := m) (r := r) (w := w) (hx := hx) (hm := hm) (k := k) (S := S) (Mk := Finset.univ) (f := f) hS) $$ H
  iintro H
  iapply Hk
  iexists ((m.access r).write Val f w Finset.univ)
  isplitr
  · ipureintro
    refine hψ _ _ hf (fun j => ?_) (fun i hi => ?_)
    · exact View.read_slice_write_emb (v := m.view) r f w (Finset.mem_univ j)
    · exact View.read_slice_write_of_not_mem (v := m.view) r f w _ (by rwa [Rect.map_emb_univ])
  · iexact H

end Rules

section Whole
variable [Preorder Lvl] {defs : Defs nD τ sig Val Λ} (𝒱 : Variants) (c : Dev nD) (bd : Option 𝒱.V) (E : Set Name)
variable {s : Shape} {e : EltTy} {α : Type} {Q : α → sProp (MT nD τ sig Ix Val Name U Lvl)}

/-- The three rules for a buffer held whole. -/
theorem loadW {cs : CoreSpace} {m : Memref sig .tc cs s e} {r : Rect s} {hl : m.view.LoadsAt r.toLoadRect}
    {k : (r.shape.Idx → Val e) → Prog (TpuEff nD τ sig Val Λ .tc) α} {φ : (s.Idx → Val e) → Prop}
    (v : r.shape.Idx → Val e) (hv : ∀ g, φ g → (fun j => g (r.emb j)) = v) :
    (Held c m Finset.univ φ : sProp 𝕄)
      ⊢ iprop((Held c m Finset.univ φ -∗ wp frame (wpE defs 𝒱 (c.tc : Thread nD τ) bd) E (k v) Q)
        -∗ wp frame (wpE defs 𝒱 (c.tc : Thread nD τ) bd) E (.op (.load m r.toLoadRect hl) k) Q) :=
  load 𝒱 c bd E v (Finset.subset_univ _) hv

theorem loadW_ {cs : CoreSpace} {m : Memref sig .tc cs s e} {r : Rect s} {hl : m.view.LoadsAt r.toLoadRect}
    {k : Prog (TpuEff nD τ sig Val Λ .tc) α} {φ : (s.Idx → Val e) → Prop} :
    (Held c m Finset.univ φ : sProp 𝕄)
      ⊢ iprop((Held c m Finset.univ φ -∗ wp frame (wpE defs 𝒱 (c.tc : Thread nD τ) bd) E k Q)
        -∗ wp frame (wpE defs 𝒱 (c.tc : Thread nD τ) bd) E (.op (.load m r.toLoadRect hl) fun _ => k) Q) :=
  load_ 𝒱 c bd E (Finset.subset_univ _)

theorem storeW {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} {φ : (s.Idx → Val e) → Prop}
    (ψ : (s.Idx → Val e) → Prop)
    (hψ : ∀ g g', φ g → (∀ j, g' (r.emb j) = w j) → (∀ i, i ∉ r.set → g' i = g i) → ψ g') :
    (Held c m Finset.univ φ : sProp 𝕄)
      ⊢ iprop((Held c m Finset.univ ψ -∗ wp frame (wpE defs 𝒱 (c.tc : Thread nD τ) bd) E (k ⟨⟩) Q)
        -∗ wp frame (wpE defs 𝒱 (c.tc : Thread nD τ) bd) E (.op (.store m r w Finset.univ hx hm) k) Q) :=
  store 𝒱 c bd E ψ (Finset.subset_univ _) hψ

end Whole

/-! ## A transfer's landing and the slots of a buffer -/

section Land
variable {s s' u : Shape} {e : EltTy} {sp sp' : Space}

/-- What a squeezed rectangle of one buffer holds after the transfer of a squeezed rectangle of another: the landed contents
    read at the destination rectangle what the source reads at its own. -/
theorem landed {M : Memref sig .tc sp s e} {M' : Memref sig .tc sp' s' e} {r : Rect s} {r' : Rect s'}
    (hr : ∀ a, r.stride a = 1) (hr' : ∀ a, r'.stride a = 1) (q : r.shape.Squeezes u) (q' : r'.shape.Squeezes u)
    (c c' : Dev nD) {φ : (s.Idx → Val e) → Prop} {ψ : (s'.Idx → Val e) → Prop}
    (h : ∀ g g', φ g → (∀ y : u.Idx, g' (r'.emb (Shape.reshapeEquiv q'.numel_eq y)) = g (r.emb (Shape.reshapeEquiv q.numel_eq y))) → ψ g')
    (fs : Buf Val (M.view.loc (c.tc : Thread nD τ))) (fd : Buf Val (M'.view.loc (c'.tc : Thread nD τ)))
    (hf : φ (M.view.read Val fs)) :
    ((((M'.slice r' hr').squeeze u q').view.loc (c'.tc : Thread nD τ) ↦[((M'.slice r' hr').squeeze u q').view.set]{fullShare}
        ((M'.slice r' hr').squeeze u q').view.write Val fd (((M.slice r hr).squeeze u q).view.read Val fs) Finset.univ) : sProp 𝕄)
      ⊢ Held c' M' (M'.access r').set ψ := by
  unfold Held
  iintro H
  iexists ((M'.view.slice r').reshape u q'.numel_eq).write Val fd (((M.slice r hr).squeeze u q).view.read Val fs) Finset.univ
  isplitr
  · ipureintro
    refine h _ _ hf fun y => ?_
    exact View.read_write_reshape (M'.view.slice r') q'.numel_eq fd _ y
  · have e1 : ((M'.view.slice r').reshape u q'.numel_eq).set = (M'.view.slice r').set := View.set_reshape _ _
    have e2 : ((M'.slice r' hr').squeeze u q').view.set = (M'.access r').set := e1
    rw [← e2]
    iexact H

/-- A held rectangle as the transfer's squeezed view owns it. -/
theorem view_set {M : Memref sig .tc sp s e} {r : Rect s} (hr : ∀ a, r.stride a = 1) (q : r.shape.Squeezes u) :
    ((M.slice r hr).squeeze u q).view.set = (M.access r).set := by
  have e1 : ((M.view.slice r).reshape u q.numel_eq).set = (M.view.slice r).set := View.set_reshape _ _
  exact e1

/-- A rectangle within another one, as sets of elements of the buffer. -/
theorem access_subset {M : Memref sig .tc sp s e} {r r' : Rect s} (h : ∀ j, r.emb j ∈ r'.set) :
    (M.access r).set ⊆ (M.access r').set := by
  show (M.view.slice r).set ⊆ (M.view.slice r').set
  rw [View.set_slice, View.set_slice]
  refine Finset.map_subset_map.mpr fun i hi => ?_
  rw [← Rect.map_emb_univ] at hi
  obtain ⟨j, -, rfl⟩ := Finset.mem_map.mp hi
  exact h j

/-- A whole buffer cut in rectangles that partition it, each held on its own. -/
theorem split {B : Type} [Fintype B] [DecidableEq B] (b : Ref sig .tc) (r : B → Rect b.ty.shape) (f : b.ty.shape.Idx → B)
    (hf : ∀ i k, i ∈ (r k).set ↔ f i = k) (c : Dev nD) :
    (iprop(∃ g : Buf Val ((c.tc : Thread nD τ).loc b), ((c.tc : Thread nD τ).loc b) ↦{fullShare} g) : sProp 𝕄)
      ⊢ bigSep Finset.univ fun k => Held c (Memref.whole b) ((Memref.whole b).access (r k)).set (fun _ => True) := by
  have hs : ∀ k, ((Memref.whole b).access (r k)).set = (r k).set := fun k => View.set_slice_whole _ _
  have h : ∀ (g : Buf Val ((c.tc : Thread nD τ).loc b)) k, ((c.tc : Thread nD τ).loc b ↦[(r k).set]{fullShare} g : sProp 𝕄)
      ⊢ Held c (Memref.whole b) ((Memref.whole b).access (r k)).set (fun _ => True) := fun g k => by
    rw [hs k]
    exact Held.intro (m := Memref.whole b) (φ := fun _ => True) g trivial
  have h' : ∀ g : Buf Val ((c.tc : Thread nD τ).loc b), ((c.tc : Thread nD τ).loc b ↦{fullShare} g : sProp 𝕄)
      ⊢ bigSep Finset.univ fun k => Held c (Memref.whole b) ((Memref.whole b).access (r k)).set (fun _ => True) := fun g =>
    (Entails.of_eq (pointsTo_blocks (ℓ := (c.tc : Thread nD τ).loc b) (q := fullShare) (fun k => (r k).set)
      (fun k k' h => Finset.disjoint_left.mpr fun i h1 h2 => h (((hf i k).mp h1).symm.trans ((hf i k').mp h2)))
      (Finset.eq_univ_of_forall fun i => Finset.mem_biUnion.mpr ⟨f i, Finset.mem_univ _, (hf i _).mpr rfl⟩) g)).trans
      (bigSep_mono (s := Finset.univ) fun k _ => h g k)
  iintro ⟨%g, H⟩
  iapply (h' g)
  iexact H

/-- The rectangles together are the whole buffer again. -/
theorem join {B : Type} [Fintype B] [DecidableEq B] (b : Ref sig .tc) (r : B → Rect b.ty.shape) (f : b.ty.shape.Idx → B)
    (hf : ∀ i k, i ∈ (r k).set ↔ f i = k) (c : Dev nD) (φ : B → (b.ty.shape.Idx → Val b.ty.elt) → Prop)
    (g₀ : Buf Val ((c.tc : Thread nD τ).loc b)) :
    (bigSep Finset.univ fun k => Held c (Memref.whole b) ((Memref.whole b).access (r k)).set (φ k) : sProp 𝕄)
      ⊢ iprop(∃ g : Buf Val ((c.tc : Thread nD τ).loc b), ((c.tc : Thread nD τ).loc b) ↦{fullShare} g) := by
  have hs : ∀ k, ((Memref.whole b).access (r k)).set = (r k).set := fun k => View.set_slice_whole _ _
  have h : ∀ k, (Held c (Memref.whole b) ((Memref.whole b).access (r k)).set (φ k) : sProp 𝕄)
      ⊢ iprop(∃ g : Buf Val ((c.tc : Thread nD τ).loc b), (c.tc : Thread nD τ).loc b ↦[(r k).set]{fullShare} g) := fun k => by
    rw [hs k]
    unfold Held
    iintro ⟨%g, -, H⟩
    iexists g
    iexact H
  refine (bigSep_mono (s := Finset.univ) fun k _ => h k).trans ?_
  exact pointsTo_blocks_join_exists (ℓ := (c.tc : Thread nD τ).loc b) (q := fullShare) (fun k => (r k).set)
    (fun k k' h => Finset.disjoint_left.mpr fun i h1 h2 => h (((hf i k).mp h1).symm.trans ((hf i k').mp h2)))
    (Finset.eq_univ_of_forall fun i => Finset.mem_biUnion.mpr ⟨f i, Finset.mem_univ _, (hf i _).mpr rfl⟩) g₀

end Land

end Cert.Held

end
-- ==== Proof.KernelIdeal.Phases.lean ====
/-
  The body of the kernel as a sequence of phases. The printed body is one straight run of memory operations; here it is
  cut where the Python source cuts it — `partial(t)`, `send(s, t)`, `combine(s, t)`, `project(t)` — and every phase is a
  definition over the stage `s` and the tile `t`, in continuation-passing form. `Tie.lean` proves that the sequence is the
  printed body.
-/
module

public import proofs.«01_k».proof.Proof.Gen.KernelIdeal.Skeleton

@[expose] public section

noncomputable section

namespace Cert.KernelIdeal.Phase

open Idealize.ShloMosaic Idealize.SL.Sem

variable {F : FTy → Type} [FloatOps F] [Facts]

open Facts₀ Facts

/-! ## Rectangles -/

theorem fits_kv (t g : Fin 2) : ∀ a, (![t.val, 0, g.val, 0] : Fin 4 → ℕ) a + S1x128x1x64.size a ≤ S2x128x2x64.size a := by
  revert t g; decide

theorem fits_kb (t g : Fin 2) : ∀ a, (![t.val, g.val, 0, 0] : Fin 4 → ℕ) a + S1x1x128x64.size a ≤ S2x2x128x64.size a := by
  revert t g; decide

theorem fits_kt (t : Fin 2) : ∀ a, (![t.val, 0, 0, 0] : Fin 4 → ℕ) a + S1x2x128x64.size a ≤ S2x2x128x64.size a := by
  revert t; decide

theorem fits_x (t : Fin 2) : ∀ a, (![t.val, 0, 0] : Fin 3 → ℕ) a + S1x128x512.size a ≤ S2x128x512.size a := by
  revert t; decide

theorem fits_qh (t : Fin 2) (h : Fin 8) :
    ∀ a, (![t.val, h.val / 4, 128 * (h.val % 4), 0] : Fin 4 → ℕ) a + S1x1x128x64.size a ≤ S2x2x512x64.size a := by
  revert t h; decide

theorem fits_qt (t : Fin 2) : ∀ a, (![t.val, 0, 0, 0] : Fin 4 → ℕ) a + S1x2x512x64.size a ≤ S2x2x512x64.size a := by
  revert t; decide

theorem fits_acc (t : Fin 2) : ∀ a, (![t.val, 0, 0, 0] : Fin 4 → ℕ) a + S1x2x64x512.size a ≤ S2x2x64x512.size a := by
  revert t; decide

theorem fits_stat (t j : Fin 2) :
    ∀ a, (![t.val, j.val, 0, 0, 0] : Fin 5 → ℕ) a + S1x1x2x1x512.size a ≤ S2x2x2x1x512.size a := by
  revert t j; decide

theorem fits_stats (t : Fin 2) : ∀ a, (![t.val, 0, 0, 0, 0] : Fin 5 → ℕ) a + S1x2x2x1x512.size a ≤ S2x2x2x1x512.size a := by
  revert t; decide

/-- The landing slot of stage `s` and tile `t`. -/
def slot (s : Fin 4) (t : Fin 2) : Fin 8 := ⟨2 * s.val + t.val, by omega⟩

theorem fits_rb (n : Fin 8) : ∀ a, (![n.val, 0, 0, 0] : Fin 4 → ℕ) a + S1x2x64x512.size a ≤ S8x2x64x512.size a := by
  revert n; decide

theorem fits_rstat (n : Fin 8) (j : Fin 2) :
    ∀ a, (![n.val, j.val, 0, 0, 0] : Fin 5 → ℕ) a + S1x1x2x1x512.size a ≤ S8x2x2x1x512.size a := by
  revert n j; decide

theorem fits_rstats (n : Fin 8) : ∀ a, (![n.val, 0, 0, 0, 0] : Fin 5 → ℕ) a + S1x2x2x1x512.size a ≤ S8x2x2x1x512.size a := by
  revert n; decide

theorem fits_sem (s : Fin 4) (t : Fin 2) : ∀ a, (![s.val, t.val] : Fin 2 → ℕ) a + S1x1.size a ≤ S4x2.size a := by
  revert s t; decide

theorem fits_lh (t : Fin 2) (h : Fin 8) :
    ∀ a, (![t.val, 1, h.val / 4, 0, 128 * (h.val % 4)] : Fin 5 → ℕ) a + S1x1x1x1x128.size a ≤ S2x2x2x1x512.size a := by
  revert t h; decide

theorem fits_ah (t : Fin 2) (h : Fin 8) :
    ∀ a, (![t.val, h.val / 4, 0, 128 * (h.val % 4)] : Fin 4 → ℕ) a + S1x1x64x128.size a ≤ S2x2x64x512.size a := by
  revert t h; decide

theorem fits_ob (h : Fin 8) : ∀ a, (![64 * h.val, 0] : Fin 2 → ℕ) a + S64x128.size a ≤ S512x128.size a := by
  revert h; decide

theorem fits_sl (h : Fin 8) : S128x512.Slices ![0, 64 * h.val] S128x64 := by
  fin_cases h
  · exact slices_S128x512_o0_0_S128x64
  · exact slices_S128x512_o0_64_S128x64
  · exact slices_S128x512_o0_128_S128x64
  · exact slices_S128x512_o0_192_S128x64
  · exact slices_S128x512_o0_256_S128x64
  · exact slices_S128x512_o0_320_S128x64
  · exact slices_S128x512_o0_384_S128x64
  · exact slices_S128x512_o0_448_S128x64

abbrev rKv (t g : Fin 2) : Rect S2x128x2x64 := Rect.unit ![t.val, 0, g.val, 0] S1x128x1x64.size (fits_kv t g)
abbrev rKb (t g : Fin 2) : Rect S2x2x128x64 := Rect.unit ![t.val, g.val, 0, 0] S1x1x128x64.size (fits_kb t g)
abbrev rKt (t : Fin 2) : Rect S2x2x128x64 := Rect.unit ![t.val, 0, 0, 0] S1x2x128x64.size (fits_kt t)
abbrev rX (t : Fin 2) : Rect S2x128x512 := Rect.unit ![t.val, 0, 0] S1x128x512.size (fits_x t)
abbrev rW : Rect S512x512 := Rect.unit ![0, 0] S512x512.size inb_S512x512_S512x512_0_0
abbrev rQh (t : Fin 2) (h : Fin 8) : Rect S2x2x512x64 :=
  Rect.unit ![t.val, h.val / 4, 128 * (h.val % 4), 0] S1x1x128x64.size (fits_qh t h)
abbrev rQt (t : Fin 2) : Rect S2x2x512x64 := Rect.unit ![t.val, 0, 0, 0] S1x2x512x64.size (fits_qt t)
abbrev rAcc (t : Fin 2) : Rect S2x2x64x512 := Rect.unit ![t.val, 0, 0, 0] S1x2x64x512.size (fits_acc t)
abbrev rStat (t j : Fin 2) : Rect S2x2x2x1x512 := Rect.unit ![t.val, j.val, 0, 0, 0] S1x1x2x1x512.size (fits_stat t j)
abbrev rStats (t : Fin 2) : Rect S2x2x2x1x512 := Rect.unit ![t.val, 0, 0, 0, 0] S1x2x2x1x512.size (fits_stats t)
abbrev rRb (n : Fin 8) : Rect S8x2x64x512 := Rect.unit ![n.val, 0, 0, 0] S1x2x64x512.size (fits_rb n)
abbrev rRstat (n : Fin 8) (j : Fin 2) : Rect S8x2x2x1x512 :=
  Rect.unit ![n.val, j.val, 0, 0, 0] S1x1x2x1x512.size (fits_rstat n j)
abbrev rRstats (n : Fin 8) : Rect S8x2x2x1x512 := Rect.unit ![n.val, 0, 0, 0, 0] S1x2x2x1x512.size (fits_rstats n)
abbrev rLh (t : Fin 2) (h : Fin 8) : Rect S2x2x2x1x512 :=
  Rect.unit ![t.val, 1, h.val / 4, 0, 128 * (h.val % 4)] S1x1x1x1x128.size (fits_lh t h)
abbrev rAh (t : Fin 2) (h : Fin 8) : Rect S2x2x64x512 :=
  Rect.unit ![t.val, h.val / 4, 0, 128 * (h.val % 4)] S1x1x64x128.size (fits_ah t h)
abbrev rOb (h : Fin 8) : Rect S512x128 := Rect.unit ![64 * h.val, 0] S64x128.size (fits_ob h)
abbrev rO : Rect S512x128 := Rect.unit ![0, 0] S512x128.size inb_S512x128_S512x128_0_0

theorem packed_acc (t : Fin 2) : (rAcc t).PackedRows (EltTy.packing .bf16) := by
  fin_cases t
  · exact packedbf16_S2x2x64x512_S1x2x64x512_0_0_0_0
  · exact packedbf16_S2x2x64x512_S1x2x64x512_1_0_0_0

/-! ## Values -/

/-- The queries of head `h`, cut from all of them. -/
def headQ (q : FVec F S128x512 .f32) (h : Fin 8) : FVec F S1x1x128x64 .f32 :=
  shapeCast S1x1x128x64 (extractStridedSlice S128x64 ![0, 64 * h.val] q (fits_sl h)) shapeCasts_S128x64_S1x1x128x64

/-- The greater maximum of two. -/
def newM (ma mb : Vec F S1x1x2x1x512 .f32) : FVec F S2x1x512 .f32 :=
  maximumf (shapeCast S2x1x512 ma shapeCasts_S1x1x2x1x512_S2x1x512) (shapeCast S2x1x512 mb shapeCasts_S1x1x2x1x512_S2x1x512)

/-- The factor that rescales sums taken at the maximum `m` to the greater maximum of `ma` and `mb`. -/
def factor (m ma mb : Vec F S1x1x2x1x512 .f32) : FVec F S2x1x512 .f32 :=
  exp (subf (shapeCast S2x1x512 m shapeCasts_S1x1x2x1x512_S2x1x512) (newM ma mb))

/-- The new maximum as it is stored. -/
def nextM (ma mb : Vec F S1x1x2x1x512 .f32) : FVec F S1x1x2x1x512 .f32 :=
  shapeCast S1x1x2x1x512 (newM ma mb) shapeCasts_S2x1x512_S1x1x2x1x512

/-- The new normalizer as it is stored. -/
def nextL (ma la mb lb : Vec F S1x1x2x1x512 .f32) : FVec F S1x1x2x1x512 .f32 :=
  shapeCast S1x1x2x1x512
    (addf (mulf (shapeCast S2x1x512 la shapeCasts_S1x1x2x1x512_S2x1x512) (factor ma ma mb))
      (mulf (shapeCast S2x1x512 lb shapeCasts_S1x1x2x1x512_S2x1x512) (factor mb ma mb)))
    shapeCasts_S2x1x512_S1x1x2x1x512

/-- The accumulator rescaled to the new maximum. -/
def scaleA (ma mb : Vec F S1x1x2x1x512 .f32) (a : Vec F S1x2x64x512 .f32) : FVec F S1x2x64x512 .f32 :=
  shapeCast S1x2x64x512
    (mulf (shapeCast S2x64x512 a shapeCasts_S1x2x64x512_S2x64x512)
      (broadcastTo S2x64x512 (factor ma ma mb) broadcasts_S2x1x512_S2x64x512))
    shapeCasts_S2x64x512_S1x2x64x512

/-- The partner's accumulator, received in the narrow format, rescaled and added. -/
def addB (ma mb : Vec F S1x1x2x1x512 .f32) (a : Vec F S1x2x64x512 .f32) (b : Vec F S1x2x64x512 .bf16) :
    FVec F S1x2x64x512 .f32 :=
  shapeCast S1x2x64x512
    (addf (shapeCast S2x64x512 a shapeCasts_S1x2x64x512_S2x64x512)
      (mulf (extf .f32 (shapeCast S2x64x512 b shapeCasts_S1x2x64x512_S2x64x512) bitsLt_bf16_f32)
        (broadcastTo S2x64x512 (factor mb ma mb) broadcasts_S2x1x512_S2x64x512)))
    shapeCasts_S2x64x512_S1x2x64x512

/-! ## Semaphores and transfer views -/

/-- Semaphore `(s, t)` of an array. -/
abbrev sem42 (a : DmaSems sig S4x2) (s : Fin 4) (t : Fin 2) : DmaSem sig :=
  ((a.slice (Rect.unit (s := S4x2) ![s.val, t.val] S1x1.size (fits_sem s t))).squeeze S_ squeezes_S1x1_S_).sem

/-- The statistics of tile `t` as a transfer reads them. -/
abbrev vStats (arg7 : Memref sig .tc .vmem S2x2x2x1x512 .f32) (t : Fin 2) : Memref sig .tc .vmem S2x2x1x512 .f32 :=
  (arg7.slice (rStats t) (fun _ => rfl)).squeeze S2x2x1x512 squeezes_S1x2x2x1x512_S2x2x1x512

/-- Landing slot `n` of the statistics. -/
abbrev vRstats (arg10 : Memref sig .tc .vmem S8x2x2x1x512 .f32) (n : Fin 8) : Memref sig .tc .vmem S2x2x1x512 .f32 :=
  (arg10.slice (rRstats n) (fun _ => rfl)).squeeze S2x2x1x512 squeezes_S1x2x2x1x512_S2x2x1x512

/-- The narrowed accumulator of tile `t` as a transfer reads it. -/
abbrev vOut (arg8 : Memref sig .tc .vmem S2x2x64x512 .bf16) (t : Fin 2) : Memref sig .tc .vmem S2x64x512 .bf16 :=
  (arg8.slice (rAcc t) (fun _ => rfl)).squeeze S2x64x512 squeezes_S1x2x64x512_S2x64x512

/-- Landing slot `n` of the accumulators. -/
abbrev vRout (arg9 : Memref sig .tc .vmem S8x2x64x512 .bf16) (n : Fin 8) : Memref sig .tc .vmem S2x64x512 .bf16 :=
  (arg9.slice (rRb n) (fun _ => rfl)).squeeze S2x64x512 squeezes_S1x2x64x512_S2x64x512

theorem words_acc (t : Fin 2) : (rAcc t).WholeWords (EltTy.packing .bf16) := by
  fin_cases t
  · exact wordsbf16_S2x2x64x512_S1x2x64x512_0_0_0_0
  · exact wordsbf16_S2x2x64x512_S1x2x64x512_1_0_0_0

theorem words_rb (n : Fin 8) : (rRb n).WholeWords (EltTy.packing .bf16) := by
  fin_cases n
  · exact wordsbf16_S8x2x64x512_S1x2x64x512_0_0_0_0
  · exact wordsbf16_S8x2x64x512_S1x2x64x512_1_0_0_0
  · exact wordsbf16_S8x2x64x512_S1x2x64x512_2_0_0_0
  · exact wordsbf16_S8x2x64x512_S1x2x64x512_3_0_0_0
  · exact wordsbf16_S8x2x64x512_S1x2x64x512_4_0_0_0
  · exact wordsbf16_S8x2x64x512_S1x2x64x512_5_0_0_0
  · exact wordsbf16_S8x2x64x512_S1x2x64x512_6_0_0_0
  · exact wordsbf16_S8x2x64x512_S1x2x64x512_7_0_0_0

/-! ## Phases -/

/-- Programs of one core. -/
abbrev P : Type 1 := Prog (TpuEff nD τ sig (Elt F) Λ₀ .tc) PUnit

section
variable (arg0 : Memref sig .tc .vmem S2x128x512 .f32) (arg1 arg2 : Memref sig .tc .vmem S512x512 .f32)
  (arg3 arg4 : Memref sig .tc .vmem S2x128x2x64 .f32) (arg5 : Memref sig .tc .vmem S2x128x512 .f32)
  (arg6 : Memref sig .tc .vmem S2x2x64x512 .f32) (arg7 : Memref sig .tc .vmem S2x2x2x1x512 .f32)
  (arg8 : Memref sig .tc .vmem S2x2x64x512 .bf16) (harg8 : arg8.IsWhole)
  (arg9 : Memref sig .tc .vmem S8x2x64x512 .bf16) (harg9 : arg9.IsWhole)
  (arg10 : Memref sig .tc .vmem S8x2x2x1x512 .f32) (arg11 arg12 : Memref sig .tc .vmem S2x2x128x64 .f32)
  (arg13 : Memref sig .tc .vmem S2x2x512x64 .f32) (arg14 : Memref sig .tc .vmem S512x128 .f32)
  (arg15 arg16 arg17 arg18 : DmaSems sig S4x2)

/-- One key (or value) head of one tile, copied to its place in the scratch. -/
def kvK (src : Memref sig .tc .vmem S2x128x2x64 .f32) (dst : Memref sig .tc .vmem S2x2x128x64 .f32) (t g : Fin 2)
    (k : P (F := F)) : P (F := F) :=
  .op (.load src (rKv t g).toLoadRect (View.loadsAt_vmem h_S1x128x1x64)) fun (v : Vec F S1x128x1x64 .f32) =>
  .op (.load dst (rKb t g).toLoadRect (View.loadsAt_vmem h_S1x1x128x64)) fun _ =>
  .op (.store dst (rKb t g) (Gen.k0_pay1 v) Finset.univ (View.stores_vmem_bits_univ h_S1x1x128x64 rfl) (.inl rfl)) fun _ =>
  k

/-- The queries of one head, stored at their place. -/
def headK (t : Fin 2) (h : Fin 8) (q : FVec F S128x512 .f32) (k : P (F := F)) : P (F := F) :=
  .op (.load arg13 (rQh t h).toLoadRect (View.loadsAt_vmem h_S1x1x128x64)) fun _ =>
  .op (.store arg13 (rQh t h) (headQ q h) Finset.univ (View.stores_vmem_bits_univ h_S1x1x128x64 rfl) (.inl rfl)) fun _ =>
  k

/-- The attention of one tile over the device's own keys. -/
def partialK (t : Fin 2) (k : P (F := F)) : P (F := F) :=
  kvK arg3 arg11 t 0 <| kvK arg4 arg12 t 0 <| kvK arg3 arg11 t 1 <| kvK arg4 arg12 t 1 <|
  .op (.load arg0 (rX t).toLoadRect (View.loadsAt_vmem h_S1x128x512)) fun (x : Vec F S1x128x512 .f32) =>
  .op (.load arg1 rW.toLoadRect (View.loadsAt_vmem h_S512x512)) fun (w : Vec F S512x512 .f32) =>
  headK arg13 t 0 (Gen.k0_pay6 x w) <| headK arg13 t 1 (Gen.k0_pay6 x w) <|
  headK arg13 t 2 (Gen.k0_pay6 x w) <| headK arg13 t 3 (Gen.k0_pay6 x w) <|
  headK arg13 t 4 (Gen.k0_pay6 x w) <| headK arg13 t 5 (Gen.k0_pay6 x w) <|
  headK arg13 t 6 (Gen.k0_pay6 x w) <| headK arg13 t 7 (Gen.k0_pay6 x w) <|
  .op (.load arg11 (rKt t).toLoadRect (View.loadsAt_vmem h_S1x2x128x64)) fun (kk : Vec F S1x2x128x64 .f32) =>
  .op (.load arg13 (rQt t).toLoadRect (View.loadsAt_vmem h_S1x2x512x64)) fun (qq : Vec F S1x2x512x64 .f32) =>
  .op (.load arg12 (rKt t).toLoadRect (View.loadsAt_vmem h_S1x2x128x64)) fun (vv : Vec F S1x2x128x64 .f32) =>
  .op (.load arg6 (rAcc t).toLoadRect (View.loadsAt_vmem h_S1x2x64x512)) fun _ =>
  .op (.store arg6 (rAcc t) (Gen.k0_pay19 kk qq vv) Finset.univ (View.stores_vmem_bits_univ h_S1x2x64x512 rfl) (.inl rfl))
    fun _ =>
  .op (.load arg7 (rStat t 0).toLoadRect (View.loadsAt_vmem h_S1x1x2x1x512)) fun _ =>
  .op (.store arg7 (rStat t 0) (Gen.k0_pay20 kk qq) Finset.univ (View.stores_vmem_bits_univ h_S1x1x2x1x512 rfl) (.inl rfl))
    fun _ =>
  .op (.load arg7 (rStat t 1).toLoadRect (View.loadsAt_vmem h_S1x1x2x1x512)) fun _ =>
  .op (.store arg7 (rStat t 1) (Gen.k0_pay21 kk qq) Finset.univ (View.stores_vmem_bits_univ h_S1x1x2x1x512 rfl) (.inl rfl))
    fun _ =>
  k

/-- The tile's accumulator is narrowed; statistics and narrowed accumulator go to the partners `p` and `p'` of the stage. -/
def sendK (s : Fin 4) (t : Fin 2) (p p' : Dev nD) (k : P (F := F)) : P (F := F) :=
  .op (.load arg6 (rAcc t).toLoadRect (View.loadsAt_vmem h_S1x2x64x512)) fun (a : Vec F S1x2x64x512 .f32) =>
  .op (.load arg8 (rAcc t).toLoadRect (View.loadsAt_vmem h_S1x2x64x512)) fun _ =>
  .op (.store arg8 (rAcc t) (Gen.k0_pay22 a) Finset.univ
    (View.stores_vmem h_S1x2x64x512 (harg8.storeExact_slice rfl _ (packed_acc t)) (fun _ => rfl)) (.inl rfl)) fun _ =>
  .op (.enqueueDma (vStats arg7 t) (.remote (Dev.tc p) (vRstats arg10 (slot s t)) (.dma (sem42 arg17 s t)))
    (.dma (sem42 arg18 s t)) ((View.wordExact_bits rfl).reshape _ _) ((View.wordExact_bits rfl).reshape _ _)
    ⟨⟨rfl, Or.inl rfl⟩, trivial⟩) fun _ =>
  .op (.enqueueDma (vOut arg8 t) (.remote (Dev.tc p') (vRout arg9 (slot s t)) (.dma (sem42 arg15 s t)))
    (.dma (sem42 arg16 s t)) ((harg8.wordExact_slice rfl _ (words_acc t)).reshape _ _)
    ((harg9.wordExact_slice rfl _ (words_rb (slot s t))).reshape _ _) ⟨⟨rfl, Or.inl rfl⟩, trivial⟩) fun _ =>
  k

/-- The tile's state is merged with the partner's, which arrived at stage `s`. -/
def combineK (s : Fin 4) (t : Fin 2) (k : P (F := F)) : P (F := F) :=
  .op (.waitDma2 (sem42 arg17 s t) (vRstats arg10 (slot s t)) (vStats arg7 t) ((View.wordExact_bits rfl).reshape _ _)
    ((View.wordExact_bits rfl).reshape _ _)) fun _ =>
  .op (.waitDma2 (sem42 arg18 s t) (vStats arg7 t) (vRstats arg10 (slot s t)) ((View.wordExact_bits rfl).reshape _ _)
    ((View.wordExact_bits rfl).reshape _ _)) fun _ =>
  .op (.load arg7 (rStat t 0).toLoadRect (View.loadsAt_vmem h_S1x1x2x1x512)) fun (ma : Vec F S1x1x2x1x512 .f32) =>
  .op (.load arg7 (rStat t 1).toLoadRect (View.loadsAt_vmem h_S1x1x2x1x512)) fun (la : Vec F S1x1x2x1x512 .f32) =>
  .op (.load arg10 (rRstat (slot s t) 0).toLoadRect (View.loadsAt_vmem h_S1x1x2x1x512)) fun (mb : Vec F S1x1x2x1x512 .f32) =>
  .op (.load arg10 (rRstat (slot s t) 1).toLoadRect (View.loadsAt_vmem h_S1x1x2x1x512)) fun (lb : Vec F S1x1x2x1x512 .f32) =>
  .op (.load arg7 (rStat t 0).toLoadRect (View.loadsAt_vmem h_S1x1x2x1x512)) fun _ =>
  .op (.store arg7 (rStat t 0) (nextM ma mb) Finset.univ (View.stores_vmem_bits_univ h_S1x1x2x1x512 rfl) (.inl rfl)) fun _ =>
  .op (.load arg7 (rStat t 1).toLoadRect (View.loadsAt_vmem h_S1x1x2x1x512)) fun _ =>
  .op (.store arg7 (rStat t 1) (nextL ma la mb lb) Finset.univ (View.stores_vmem_bits_univ h_S1x1x2x1x512 rfl) (.inl rfl))
    fun _ =>
  .op (.load arg6 (rAcc t).toLoadRect (View.loadsAt_vmem h_S1x2x64x512)) fun (a : Vec F S1x2x64x512 .f32) =>
  .op (.load arg6 (rAcc t).toLoadRect (View.loadsAt_vmem h_S1x2x64x512)) fun _ =>
  .op (.store arg6 (rAcc t) (scaleA ma mb a) Finset.univ (View.stores_vmem_bits_univ h_S1x2x64x512 rfl) (.inl rfl)) fun _ =>
  .op (.waitDma2 (sem42 arg15 s t) (vRout arg9 (slot s t)) (vOut arg8 t)
    ((harg9.wordExact_slice rfl _ (words_rb (slot s t))).reshape _ _)
    ((harg8.wordExact_slice rfl _ (words_acc t)).reshape _ _)) fun _ =>
  .op (.waitDma2 (sem42 arg16 s t) (vOut arg8 t) (vRout arg9 (slot s t))
    ((harg8.wordExact_slice rfl _ (words_acc t)).reshape _ _)
    ((harg9.wordExact_slice rfl _ (words_rb (slot s t))).reshape _ _)) fun _ =>
  .op (.load arg6 (rAcc t).toLoadRect (View.loadsAt_vmem h_S1x2x64x512)) fun (a' : Vec F S1x2x64x512 .f32) =>
  .op (.load arg9 (rRb (slot s t)).toLoadRect (View.loadsAt_vmem h_S1x2x64x512)) fun (b : Vec F S1x2x64x512 .bf16) =>
  .op (.load arg6 (rAcc t).toLoadRect (View.loadsAt_vmem h_S1x2x64x512)) fun _ =>
  .op (.store arg6 (rAcc t) (addB ma mb a' b) Finset.univ (View.stores_vmem_bits_univ h_S1x2x64x512 rfl) (.inl rfl)) fun _ =>
  k

/-- One head's normalized output, stored at its place. -/
def colK (t : Fin 2) (h : Fin 8) (k : P (F := F)) : P (F := F) :=
  .op (.load arg7 (rLh t h).toLoadRect (View.loadsAt_vmem h_S1x1x1x1x128)) fun (l : Vec F S1x1x1x1x128 .f32) =>
  .op (.load arg6 (rAh t h).toLoadRect (View.loadsAt_vmem h_S1x1x64x128)) fun (a : Vec F S1x1x64x128 .f32) =>
  .op (.load arg14 (rOb h).toLoadRect (View.loadsAt_vmem h_S64x128)) fun _ =>
  .op (.store arg14 (rOb h) (Gen.k0_pay126 l a) Finset.univ (View.stores_vmem_bits_univ h_S64x128 rfl) (.inl rfl)) fun _ =>
  k

/-- The tile's output: every head normalized, then the output projection. -/
def projectK (t : Fin 2) (k : P (F := F)) : P (F := F) :=
  colK arg6 arg7 arg14 t 0 <| colK arg6 arg7 arg14 t 1 <| colK arg6 arg7 arg14 t 2 <| colK arg6 arg7 arg14 t 3 <|
  colK arg6 arg7 arg14 t 4 <| colK arg6 arg7 arg14 t 5 <| colK arg6 arg7 arg14 t 6 <| colK arg6 arg7 arg14 t 7 <|
  .op (.load arg14 rO.toLoadRect (View.loadsAt_vmem h_S512x128)) fun (o : Vec F S512x128 .f32) =>
  .op (.load arg2 rW.toLoadRect (View.loadsAt_vmem h_S512x512)) fun (w : Vec F S512x512 .f32) =>
  .op (.load arg5 (rX t).toLoadRect (View.loadsAt_vmem h_S1x128x512)) fun _ =>
  .op (.store arg5 (rX t) (Gen.k0_pay136 o w) Finset.univ (View.stores_vmem_bits_univ h_S1x128x512 rfl) (.inl rfl)) fun _ =>
  k

/-- The semaphore of the kernel's barrier. -/
abbrev barSem : Sem sig := (SemArray.scalar (sig.barrier 0 rfl) : Sems sig S_).sem

/-- The body: the barrier's signals, both tiles' own attention, the four stages, both projections. The devices that the
    words of the program name are arguments. -/
def bodyK (b : Fin 4 → Dev nD) (p p' : Fin 4 → Fin 2 → Dev nD) : P (F := F) :=
  .op (.semSignal (b 0, .tc) barSem (1#32).toInt) fun _ => .op (.semSignal (b 1, .tc) barSem (1#32).toInt) fun _ =>
  .op (.semSignal (b 2, .tc) barSem (1#32).toInt) fun _ => .op (.semSignal (b 3, .tc) barSem (1#32).toInt) fun _ =>
  partialK arg0 arg1 arg3 arg4 arg6 arg7 arg11 arg12 arg13 0 <|
  .op (.semWait barSem (4#32).toInt) fun _ =>
  sendK arg6 arg7 arg8 harg8 arg9 harg9 arg10 arg15 arg16 arg17 arg18 0 0 (p 0 0) (p' 0 0) <|
  partialK arg0 arg1 arg3 arg4 arg6 arg7 arg11 arg12 arg13 1 <|
  sendK arg6 arg7 arg8 harg8 arg9 harg9 arg10 arg15 arg16 arg17 arg18 0 1 (p 0 1) (p' 0 1) <|
  combineK arg6 arg7 arg8 harg8 arg9 harg9 arg10 arg15 arg16 arg17 arg18 0 0 <|
  sendK arg6 arg7 arg8 harg8 arg9 harg9 arg10 arg15 arg16 arg17 arg18 1 0 (p 1 0) (p' 1 0) <|
  combineK arg6 arg7 arg8 harg8 arg9 harg9 arg10 arg15 arg16 arg17 arg18 0 1 <|
  sendK arg6 arg7 arg8 harg8 arg9 harg9 arg10 arg15 arg16 arg17 arg18 1 1 (p 1 1) (p' 1 1) <|
  combineK arg6 arg7 arg8 harg8 arg9 harg9 arg10 arg15 arg16 arg17 arg18 1 0 <|
  sendK arg6 arg7 arg8 harg8 arg9 harg9 arg10 arg15 arg16 arg17 arg18 2 0 (p 2 0) (p' 2 0) <|
  combineK arg6 arg7 arg8 harg8 arg9 harg9 arg10 arg15 arg16 arg17 arg18 1 1 <|
  sendK arg6 arg7 arg8 harg8 arg9 harg9 arg10 arg15 arg16 arg17 arg18 2 1 (p 2 1) (p' 2 1) <|
  combineK arg6 arg7 arg8 harg8 arg9 harg9 arg10 arg15 arg16 arg17 arg18 2 0 <|
  sendK arg6 arg7 arg8 harg8 arg9 harg9 arg10 arg15 arg16 arg17 arg18 3 0 (p 3 0) (p' 3 0) <|
  combineK arg6 arg7 arg8 harg8 arg9 harg9 arg10 arg15 arg16 arg17 arg18 2 1 <|
  sendK arg6 arg7 arg8 harg8 arg9 harg9 arg10 arg15 arg16 arg17 arg18 3 1 (p 3 1) (p' 3 1) <|
  combineK arg6 arg7 arg8 harg8 arg9 harg9 arg10 arg15 arg16 arg17 arg18 3 0 <|
  projectK arg2 arg5 arg6 arg7 arg14 0 <|
  combineK arg6 arg7 arg8 harg8 arg9 harg9 arg10 arg15 arg16 arg17 arg18 3 1 <|
  projectK arg2 arg5 arg6 arg7 arg14 1 <|
  .ret ⟨⟩

end

end Cert.KernelIdeal.Phase

end
-- ==== Proof.KernelIdeal.Values.lean ====
/-
  What the phases of `Phases.lean` compute, as functions of the contents of the windows: where each rectangle lies, what the
  scratch of one tile holds once its parts are filled, and the state (accumulator, maximum, normalizer) that the tiles of the
  devices go through.
-/
module

public import proofs.«01_k».proof.Proof.KernelIdeal.Phases
public import Idealize.ShloMosaic.Lib.Pointwise

@[expose] public section

noncomputable section

namespace Cert.KernelIdeal.Phase

open Idealize.ShloMosaic Idealize.SL.Sem

variable {F : FTy → Type} [FloatOps F] [Facts]

open Facts₀ Facts

/-! ## Where the rectangles lie -/

theorem emb_kv (t g : Fin 2) (j : S1x128x1x64.Idx) : (rKv t g).emb j = ix4 t (j 1) g (j 3) := by
  funext a
  apply Fin.ext
  have h0 : (j 0).val < 1 := (j 0).isLt
  have h2 : (j 2).val < 1 := (j 2).isLt
  fin_cases a <;> simp <;> omega

theorem emb_kb (t g : Fin 2) (j : S1x1x128x64.Idx) : (rKb t g).emb j = ix4 t g (j 2) (j 3) := by
  funext a
  apply Fin.ext
  have h0 : (j 0).val < 1 := (j 0).isLt
  have h1 : (j 1).val < 1 := (j 1).isLt
  fin_cases a <;> simp <;> omega

theorem emb_kt (t : Fin 2) (j : S1x2x128x64.Idx) : (rKt t).emb j = ix4 t (j 1) (j 2) (j 3) := by
  funext a
  apply Fin.ext
  have h0 : (j 0).val < 1 := (j 0).isLt
  fin_cases a <;> simp <;> omega

theorem emb_x (t : Fin 2) (j : S1x128x512.Idx) : (rX t).emb j = ix3 t (j 1) (j 2) := by
  funext a
  apply Fin.ext
  have h0 : (j 0).val < 1 := (j 0).isLt
  fin_cases a <;> simp <;> omega

theorem emb_acc (t : Fin 2) (j : S1x2x64x512.Idx) : (rAcc t).emb j = ix4 t (j 1) (j 2) (j 3) := by
  funext a
  apply Fin.ext
  have h0 : (j 0).val < 1 := (j 0).isLt
  fin_cases a <;> simp <;> omega

theorem emb_rb (n : Fin 8) (j : S1x2x64x512.Idx) : (rRb n).emb j = ix4 n (j 1) (j 2) (j 3) := by
  funext a
  apply Fin.ext
  have h0 : (j 0).val < 1 := (j 0).isLt
  fin_cases a <;> simp <;> omega

theorem emb_stat (t k : Fin 2) (j : S1x1x2x1x512.Idx) : (rStat t k).emb j = ix5 t k (j 2) (j 3) (j 4) := by
  funext a
  apply Fin.ext
  have h0 : (j 0).val < 1 := (j 0).isLt
  have h1 : (j 1).val < 1 := (j 1).isLt
  fin_cases a <;> simp <;> omega

theorem emb_rstat (n : Fin 8) (k : Fin 2) (j : S1x1x2x1x512.Idx) : (rRstat n k).emb j = ix5 n k (j 2) (j 3) (j 4) := by
  funext a
  apply Fin.ext
  have h0 : (j 0).val < 1 := (j 0).isLt
  have h1 : (j 1).val < 1 := (j 1).isLt
  fin_cases a <;> simp <;> omega

theorem emb_stats (t : Fin 2) (j : S1x2x2x1x512.Idx) : (rStats t).emb j = ix5 t (j 1) (j 2) (j 3) (j 4) := by
  funext a
  apply Fin.ext
  have h0 : (j 0).val < 1 := (j 0).isLt
  fin_cases a <;> simp <;> omega

theorem emb_rstats (n : Fin 8) (j : S1x2x2x1x512.Idx) : (rRstats n).emb j = ix5 n (j 1) (j 2) (j 3) (j 4) := by
  funext a
  apply Fin.ext
  have h0 : (j 0).val < 1 := (j 0).isLt
  fin_cases a <;> simp <;> omega

theorem emb_w (j : S512x512.Idx) : rW.emb j = j := by
  funext a
  apply Fin.ext
  fin_cases a <;> simp

theorem emb_o (j : S512x128.Idx) : rO.emb j = j := by
  funext a
  apply Fin.ext
  fin_cases a <;> simp

/-- The group of a head: four heads share one key head. -/
def grp (h : Fin 8) : Fin 2 := ⟨h.val / 4, by omega⟩
/-- The row of query `a` of head `h` among the queries of its group. -/
def row (h : Fin 8) (a : Fin 128) : Fin 512 := ⟨128 * (h.val % 4) + a.val, by omega⟩
/-- The column of coordinate `d` of head `h`. -/
def col (h : Fin 8) (d : Fin 64) : Fin 512 := ⟨64 * h.val + d.val, by omega⟩
/-- The head that row `r` of group `g` belongs to. -/
def hd (g : Fin 2) (r : Fin 512) : Fin 8 := ⟨4 * g.val + r.val / 128, by omega⟩
/-- The query that row `r` belongs to. -/
def qi (r : Fin 512) : Fin 128 := ⟨r.val % 128, by omega⟩
/-- The head that column `r` belongs to. -/
def hc (r : Fin 512) : Fin 8 := ⟨r.val / 64, by omega⟩
/-- The coordinate that column `r` is of its head. -/
def dc (r : Fin 512) : Fin 64 := ⟨r.val % 64, by omega⟩

theorem grp_hd (g : Fin 2) (r : Fin 512) : grp (hd g r) = g := Fin.ext (by simp only [grp, hd]; omega)
theorem row_hd (g : Fin 2) (r : Fin 512) : row (hd g r) (qi r) = r := Fin.ext (by simp only [row, hd, qi]; omega)
theorem hd_row (h : Fin 8) (a : Fin 128) : hd (grp h) (row h a) = h := Fin.ext (by simp only [row, hd, grp]; omega)
theorem qi_row (h : Fin 8) (a : Fin 128) : qi (row h a) = a := Fin.ext (by simp only [row, qi]; omega)
theorem col_hc (r : Fin 512) : col (hc r) (dc r) = r := Fin.ext (by simp only [col, hc, dc]; omega)
theorem hc_col (h : Fin 8) (d : Fin 64) : hc (col h d) = h := Fin.ext (by simp only [col, hc]; omega)
theorem dc_col (h : Fin 8) (d : Fin 64) : dc (col h d) = d := Fin.ext (by simp only [col, dc]; omega)

theorem emb_qh (t : Fin 2) (h : Fin 8) (j : S1x1x128x64.Idx) : (rQh t h).emb j = ix4 t (grp h) (row h (j 2)) (j 3) := by
  funext a
  apply Fin.ext
  have h0 : (j 0).val < 1 := (j 0).isLt
  have h1 : (j 1).val < 1 := (j 1).isLt
  fin_cases a <;> simp [grp, row] <;> omega

theorem emb_qt (t : Fin 2) (j : S1x2x512x64.Idx) : (rQt t).emb j = ix4 t (j 1) (j 2) (j 3) := by
  funext a
  apply Fin.ext
  have h0 : (j 0).val < 1 := (j 0).isLt
  fin_cases a <;> simp <;> omega

theorem emb_lh (t : Fin 2) (h : Fin 8) (j : S1x1x1x1x128.Idx) :
    (rLh t h).emb j = ix5 t 1 (grp h) 0 (row h (j 4)) := by
  funext a
  apply Fin.ext
  have h0 : (j 0).val < 1 := (j 0).isLt
  have h1 : (j 1).val < 1 := (j 1).isLt
  have h2 : (j 2).val < 1 := (j 2).isLt
  have h3 : (j 3).val < 1 := (j 3).isLt
  fin_cases a <;> simp [grp, row] <;> omega

theorem emb_ah (t : Fin 2) (h : Fin 8) (j : S1x1x64x128.Idx) :
    (rAh t h).emb j = ix4 t (grp h) (j 2) (row h (j 3)) := by
  funext a
  apply Fin.ext
  have h0 : (j 0).val < 1 := (j 0).isLt
  have h1 : (j 1).val < 1 := (j 1).isLt
  fin_cases a <;> simp [grp, row] <;> omega

theorem emb_ob (h : Fin 8) (j : S64x128.Idx) : (rOb h).emb j = ix2 (col h (j 0)) (j 1) := by
  funext a
  apply Fin.ext
  fin_cases a <;> simp [col]

/-! ## The values of the phases -/

/-- The keys (or values) of tile `t`, head first. -/
def kAll (t : Fin 2) (K : Vec F S2x128x2x64 .f32) : Vec F S1x2x128x64 .f32 := fun i => K (ix4 t (i 2) (i 1) (i 3))

/-- The queries regrouped: by group, the four heads' queries one after another. -/
def qAll (q : FVec F S128x512 .f32) : Vec F S1x2x512x64 .f32 := fun i => q (ix2 (qi (i 2)) (col (hd (i 1) (i 2)) (i 3)))

/-- Tile `t` of the activations. -/
def xT (t : Fin 2) (x : Vec F S2x128x512 .f32) : Vec F S1x128x512 .f32 := fun j => x (ix3 t (j 1) (j 2))

/-- The state of one tile: the accumulator, the maxima, the normalizers. -/
structure St (F : FTy → Type) [FloatOps F] where
  a : Vec F S1x2x64x512 .f32
  m : Vec F S1x1x2x1x512 .f32
  l : Vec F S1x1x2x1x512 .f32

/-- The state of tile `t` over one device's own keys and values. -/
def first (t : Fin 2) (x : Vec F S2x128x512 .f32) (w : Vec F S512x512 .f32) (K V : Vec F S2x128x2x64 .f32) : St F where
  a := Gen.k0_pay19 (kAll t K) (qAll (Gen.k0_pay6 (xT t x) w)) (kAll t V)
  m := Gen.k0_pay20 (kAll t K) (qAll (Gen.k0_pay6 (xT t x) w))
  l := Gen.k0_pay21 (kAll t K) (qAll (Gen.k0_pay6 (xT t x) w))

/-- A state merged with a partner's. -/
def merge (p q : St F) : St F where
  a := addB p.m q.m (scaleA p.m q.m p.a) (Gen.k0_pay22 q.a)
  m := nextM p.m q.m
  l := nextL p.m p.l q.m q.l

/-- The normalizers of one head. -/
def lCol (l : Vec F S1x1x2x1x512 .f32) (h : Fin 8) : Vec F S1x1x1x1x128 .f32 := fun j => l (ix5 0 0 (grp h) 0 (row h (j 4)))

/-- The accumulator of one head. -/
def aCol (a : Vec F S1x2x64x512 .f32) (h : Fin 8) : Vec F S1x1x64x128 .f32 := fun j => a (ix4 0 (grp h) (j 2) (row h (j 3)))

/-- The normalized output of all heads, transposed. -/
def oAll (p : St F) : Vec F S512x128 .f32 := fun i => Gen.k0_pay126 (lCol p.l (hc (i 0))) (aCol p.a (hc (i 0))) (ix2 (dc (i 0)) (i 1))

/-- The tile's output. -/
def outT (p : St F) (wo : Vec F S512x512 .f32) : FVec F S1x128x512 .f32 := Gen.k0_pay136 (oAll p) wo

/-! ## What the scratch holds -/

/-- The first `n` heads of tile `t` are in place. -/
def kvF (t : Fin 2) (K : Vec F S2x128x2x64 .f32) (n : ℕ) (G : S2x2x128x64.Idx → Elt F .f32) : Prop :=
  ∀ g : Fin 2, g.val < n → ∀ (a : Fin 128) (b : Fin 64), G (ix4 t g a b) = K (ix4 t a g b)

theorem kvF_step (t g : Fin 2) (K : Vec F S2x128x2x64 .f32) (G G' : S2x2x128x64.Idx → Elt F .f32) (h : kvF t K g.val G)
    (h1 : ∀ j, G' ((rKb t g).emb j) = Gen.k0_pay1 (fun j => K ((rKv t g).emb j)) j)
    (h2 : ∀ i, i ∉ (rKb t g).set → G' i = G i) : kvF t K (g.val + 1) G' := by
  intro g' hg a b
  by_cases e : g' = g
  · subst e
    have := h1 (ix4 0 0 a b)
    rw [emb_kb] at this
    refine (this : G' (ix4 t g' a b) = _).trans ?_
    pointwise [Gen.k0_pay1]
    rw [emb_kv]
    rfl
  · rw [h2, h g' (by have : g'.val ≠ g.val := fun h => e (Fin.ext h); omega)]
    intro hm
    obtain ⟨k, hk, hk'⟩ := (LoadRect.mem_set _).mp hm 1
    have : g'.val = g.val + 1 * k := hk'
    have : k < 1 := hk
    exact e (Fin.ext (by omega))

theorem kvF_done (t : Fin 2) (K : Vec F S2x128x2x64 .f32) (G : S2x2x128x64.Idx → Elt F .f32) (h : kvF t K 2 G) :
    (fun j => G ((rKt t).emb j)) = kAll t K := by
  funext j
  rw [emb_kt]
  exact h (j 1) (j 1).isLt (j 2) (j 3)

/-- The queries of the first `n` heads are in place. -/
def qF (t : Fin 2) (q : FVec F S128x512 .f32) (n : ℕ) (G : S2x2x512x64.Idx → Elt F .f32) : Prop :=
  ∀ h : Fin 8, h.val < n → ∀ (a : Fin 128) (d : Fin 64), G (ix4 t (grp h) (row h a) d) = q (ix2 a (col h d))

theorem qF_step (t : Fin 2) (h : Fin 8) (q : FVec F S128x512 .f32) (G G' : S2x2x512x64.Idx → Elt F .f32) (hG : qF t q h.val G)
    (h1 : ∀ j, G' ((rQh t h).emb j) = headQ q h j)
    (h2 : ∀ i, i ∉ (rQh t h).set → G' i = G i) : qF t q (h.val + 1) G' := by
  intro h' hh a d
  by_cases e : h' = h
  · subst e
    have := h1 (ix4 0 0 a d)
    rw [emb_qh] at this
    refine (this : G' (ix4 t (grp h') (row h' a) d) = _).trans ?_
    pointwise [headQ]
    rfl
  · rw [h2, hG h' (by have : h'.val ≠ h.val := fun h => e (Fin.ext h); omega)]
    intro hm
    obtain ⟨k, hk, hk'⟩ := (LoadRect.mem_set _).mp hm 1
    obtain ⟨k2, hk2, hk2'⟩ := (LoadRect.mem_set _).mp hm 2
    have e1 : h'.val / 4 = h.val / 4 + 1 * k := hk'
    have e2 : 128 * (h'.val % 4) + a.val = 128 * (h.val % 4) + 1 * k2 := hk2'
    have : k < 1 := hk
    have : k2 < 128 := hk2
    exact e (Fin.ext (by omega))

theorem qF_done (t : Fin 2) (q : FVec F S128x512 .f32) (G : S2x2x512x64.Idx → Elt F .f32) (h : qF t q 8 G) :
    (fun j => G ((rQt t).emb j)) = qAll q := by
  funext j
  rw [emb_qt]
  have key : ∀ (g : Fin 2) (r : Fin 512) (b : Fin 64), G (ix4 t g r b) = q (ix2 (qi r) (col (hd g r) b)) := fun g r b => by
    have := h (hd g r) (hd g r).isLt (qi r) b
    rwa [grp_hd, row_hd] at this
  exact key (j 1) (j 2) (j 3)

/-- The accumulator of tile `t` is `a`. -/
def accF (t : Fin 2) (a : Vec F S1x2x64x512 .f32) (G : S2x2x64x512.Idx → Elt F .f32) : Prop := ∀ j, G ((rAcc t).emb j) = a j

/-- The narrowed accumulator of tile `t` is `a`. -/
def sbF (t : Fin 2) (a : Vec F S1x2x64x512 .bf16) (G : S2x2x64x512.Idx → Elt F .bf16) : Prop := ∀ j, G ((rAcc t).emb j) = a j

/-- Landing slot `n` holds the narrowed accumulator `a`. -/
def rbF (n : Fin 8) (a : Vec F S1x2x64x512 .bf16) (G : S8x2x64x512.Idx → Elt F .bf16) : Prop := ∀ j, G ((rRb n).emb j) = a j

/-- The maxima of tile `t` are `m`. -/
def mF (t : Fin 2) (m : Vec F S1x1x2x1x512 .f32) (G : S2x2x2x1x512.Idx → Elt F .f32) : Prop :=
  ∀ j, G ((rStat t 0).emb j) = m j

/-- The maxima of tile `t` are `m` and its normalizers `l`. -/
def statF (t : Fin 2) (m l : Vec F S1x1x2x1x512 .f32) (G : S2x2x2x1x512.Idx → Elt F .f32) : Prop :=
  (∀ j, G ((rStat t 0).emb j) = m j) ∧ ∀ j, G ((rStat t 1).emb j) = l j

/-- Landing slot `n` holds the maxima `m` and the normalizers `l`. -/
def rstF (n : Fin 8) (m l : Vec F S1x1x2x1x512 .f32) (G : S8x2x2x1x512.Idx → Elt F .f32) : Prop :=
  (∀ j, G ((rRstat n 0).emb j) = m j) ∧ ∀ j, G ((rRstat n 1).emb j) = l j

theorem stat_apart (t k k' : Fin 2) (h : k ≠ k') (j : S1x1x2x1x512.Idx) : (rStat t k).emb j ∉ (rStat t k').set := by
  intro hm
  obtain ⟨n, hn, hn'⟩ := (LoadRect.mem_set _).mp hm 1
  have e1 : k.val + 1 * (j 1).val = k'.val + 1 * n := hn'
  have h1 : (j 1).val < 1 := (j 1).isLt
  have : n < 1 := hn
  exact h (Fin.ext (by omega))

/-- The normalized output of the first `n` heads is in place. -/
def oF (p : St F) (n : ℕ) (G : S512x128.Idx → Elt F .f32) : Prop :=
  ∀ h : Fin 8, h.val < n → ∀ (d : Fin 64) (c : Fin 128),
    G (ix2 (col h d) c) = Gen.k0_pay126 (lCol p.l h) (aCol p.a h) (ix2 d c)

theorem oF_step (p : St F) (h : Fin 8) (G G' : S512x128.Idx → Elt F .f32) (hG : oF p h.val G)
    (h1 : ∀ j, G' ((rOb h).emb j) = Gen.k0_pay126 (lCol p.l h) (aCol p.a h) j)
    (h2 : ∀ i, i ∉ (rOb h).set → G' i = G i) : oF p (h.val + 1) G' := by
  intro h' hh d c
  by_cases e : h' = h
  · subst e
    have := h1 (ix2 d c)
    rw [emb_ob] at this
    exact this
  · rw [h2, hG h' (by have : h'.val ≠ h.val := fun h => e (Fin.ext h); omega)]
    intro hm
    obtain ⟨k, hk, hk'⟩ := (LoadRect.mem_set _).mp hm 0
    have e1 : 64 * h'.val + d.val = 64 * h.val + 1 * k := hk'
    have : k < 64 := hk
    exact e (Fin.ext (by omega))

theorem oF_done (p : St F) (G : S512x128.Idx → Elt F .f32) (h : oF p 8 G) : (fun j => G (rO.emb j)) = oAll p := by
  funext j
  rw [emb_o]
  have key : ∀ (r : Fin 512) (c : Fin 128),
      G (ix2 r c) = Gen.k0_pay126 (lCol p.l (hc r)) (aCol p.a (hc r)) (ix2 (dc r) c) := fun r c => by
    have := h (hc r) (hc r).isLt (dc r) c
    rwa [col_hc] at this
  exact (congrArg G (eq_ix2 j)).trans (key (j 0) (j 1))

/-- The outputs of the first `n` tiles are in place. -/
def outF (o : Fin 2 → FVec F S1x128x512 .f32) (n : ℕ) (G : S2x128x512.Idx → Elt F .f32) : Prop :=
  ∀ t : Fin 2, t.val < n → ∀ j, G ((rX t).emb j) = o t j

theorem outF_step (o : Fin 2 → FVec F S1x128x512 .f32) (t : Fin 2) (G G' : S2x128x512.Idx → Elt F .f32) (hG : outF o t.val G)
    (h1 : ∀ j, G' ((rX t).emb j) = o t j) (h2 : ∀ i, i ∉ (rX t).set → G' i = G i) : outF o (t.val + 1) G' := by
  intro t' ht j
  by_cases e : t' = t
  · subst e
    exact h1 j
  · rw [h2, hG t' (by have : t'.val ≠ t.val := fun h => e (Fin.ext h); omega)]
    intro hm
    obtain ⟨k, hk, hk'⟩ := (LoadRect.mem_set _).mp hm 0
    have e1 : t'.val + 1 * (j 0).val = t.val + 1 * k := hk'
    have h1 : (j 0).val < 1 := (j 0).isLt
    have : k < 1 := hk
    exact e (Fin.ext (by omega))

/-- The whole output, of both tiles. -/
def outAll (o : Fin 2 → FVec F S1x128x512 .f32) : Vec F S2x128x512 .f32 := fun i => o (i 0) (ix3 0 (i 1) (i 2))

theorem outF_done (o : Fin 2 → FVec F S1x128x512 .f32) (G : S2x128x512.Idx → Elt F .f32) (h : outF o 2 G) : G = outAll o := by
  funext i
  have key : ∀ (t : Fin 2) (a : Fin 128) (b : Fin 512), G (ix3 t a b) = o t (ix3 0 a b) := fun t a b => by
    have := h t t.isLt (ix3 0 a b)
    rw [emb_x] at this
    exact this
  exact (congrArg G (eq_ix3 i)).trans (key (i 0) (i 1) (i 2))

/-! ## The values that the loads of a phase read -/

theorem lCol_read (t : Fin 2) (h : Fin 8) (m l : Vec F S1x1x2x1x512 .f32) (G : S2x2x2x1x512.Idx → Elt F .f32)
    (hG : statF t m l G) : (fun j => G ((rLh t h).emb j)) = lCol l h := by
  funext j
  have := hG.2 (ix5 0 0 (grp h) 0 (row h (j 4)))
  rw [emb_stat] at this
  rw [emb_lh]
  exact this

theorem aCol_read (t : Fin 2) (h : Fin 8) (a : Vec F S1x2x64x512 .f32) (G : S2x2x64x512.Idx → Elt F .f32)
    (hG : accF t a G) : (fun j => G ((rAh t h).emb j)) = aCol a h := by
  funext j
  have := hG (ix4 0 (grp h) (j 2) (row h (j 3)))
  rw [emb_acc] at this
  rw [emb_ah]
  exact this

theorem xT_read (t : Fin 2) (x : Vec F S2x128x512 .f32) : (fun j => x ((rX t).emb j)) = xT t x := by
  funext j
  rw [emb_x]
  rfl

end Cert.KernelIdeal.Phase

end
-- ==== Proof.KernelIdeal.Protocol.lean ====
/-
  How the sixteen devices talk to each other. At stage `s` a device exchanges with one partner, the device whose number
  differs in the bits of the stage's mask; being a partner is mutual. A device has a barrier cell, which each of its four
  partners raises once, handing over the landing slots that the device will fill there; and for every stage and tile four
  transfer cells: two raised when its own transfers (statistics, narrowed accumulator) have left, two raised when its
  partner's have landed, handing over the landed values. Every cell has one round.

  `In` is what the devices' input windows hold, `st s c t` the state of tile `t` on device `c` after `s` stages.
-/
module

public import proofs.«01_k».proof.Proof.KernelIdeal.Values
public import proofs.«01_k».proof.Proof.Gen.KernelIdeal.Launch
public import proofs.«01_k».proof.Proof.Held
public import Idealize.ShloMosaic.Lib.Rounds.Family

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-- The mask of a stage. -/
def mask : ℕ → ℕ | 0 => 1 | 1 => 3 | 2 => 4 | _ => 8

/-- The partner of device `c` at stage `s`. -/
def partner (s : ℕ) (c : Dev nD) : Dev nD := ⟨(c.val ^^^ mask s) % 16, Nat.mod_lt _ (by decide)⟩

theorem partner_partner (s : Fin 4) (c : Dev nD) : partner s (partner s c) = c := by revert s c; decide

/-- Being partners, as a permutation of the devices. -/
def swap (s : Fin 4) : Dev nD ≃ Dev nD := ⟨partner s, partner s, partner_partner s, partner_partner s⟩

/-! ## Contents -/

/-- What the input windows of the devices hold. -/
structure In (F : FTy → Type) [FloatOps F] where
  x : Dev nD → Vec F S2x128x512 .f32
  wq : Dev nD → Vec F S512x512 .f32
  wo : Dev nD → Vec F S512x512 .f32
  k : Dev nD → Vec F S2x128x2x64 .f32
  v : Dev nD → Vec F S2x128x2x64 .f32

/-- The state of tile `t` on device `c` after `s` stages. -/
def st (I : In F) : ℕ → Dev nD → Fin 2 → St F
  | 0, c, t => first t (I.x c) (I.wq c) (I.k c) (I.v c)
  | s + 1, c, t => merge (st I s c t) (st I s (partner s c) t)

/-! ## Cells -/

/-- The transfer semaphores by what raises them: an accumulator has left, has landed, statistics have left, have landed. -/
def xsem : Fin 4 × Fin 4 × Fin 2 → DmaSem sig
  | (0, s, t) => sem42 cc0_scratch9 s t
  | (1, s, t) => sem42 cc0_scratch10 s t
  | (2, s, t) => sem42 cc0_scratch11 s t
  | (3, s, t) => sem42 cc0_scratch12 s t

/-- The cells of one device: its barrier's and its transfers'. -/
abbrev CI : Type := Option (Fin 4 × Fin 4 × Fin 2)

def csem : CI → SemLoc sig
  | none => .reg barSem
  | some x => .dma (xsem x)

/-- Which cell a semaphore is, if any. -/
def decode : SemLoc sig → Option CI
  | .reg _ => some none
  | .dma q => if h : 6 ≤ q.val then
      some (some (⟨(q.val - 6) / 8 % 4, Nat.mod_lt _ (by decide)⟩, ⟨(q.val - 6) % 8 / 2, by omega⟩, ⟨q.val % 2, by omega⟩))
    else none

theorem decode_csem (i : CI) : decode (csem i) = some i := by
  rcases i with _ | x
  · rfl
  · revert x; decide

theorem csem_inj : Function.Injective csem := fun a b h => by
  have := congrArg decode h
  rw [decode_csem, decode_csem] at this
  exact Option.some.inj this

abbrev kcell (c : Dev nD) (i : CI) : GSem nD τ sig := ((c : Thread nD τ), csem i)
abbrev barCell (c : Dev nD) : GSem nD τ sig := kcell c none
abbrev xcell (c : Dev nD) (k s : Fin 4) (t : Fin 2) : GSem nD τ sig := kcell c (some (k, s, t))

/-- What one transfer of an accumulator, of statistics raises its cells by. -/
def NO : ℕ := (vRout (Memref.whole cc0_scratch3) 0).view.dmaCredit
def NS : ℕ := (vRstats (Memref.whole cc0_scratch4) 0).view.dmaCredit
theorem NO_pos : 0 < NO := View.dmaCredit_pos _ (by decide)
theorem NS_pos : 0 < NS := View.dmaCredit_pos _ (by decide)

/-- The amount of a transfer cell. -/
def amt : Fin 4 → ℕ | 0 => NO | 1 => NO | 2 => NS | 3 => NS
theorem amt_pos (k : Fin 4) : 0 < amt k := by
  fin_cases k
  · exact NO_pos
  · exact NO_pos
  · exact NS_pos
  · exact NS_pos

/-! ## Slots -/

abbrev accM : Memref sig .tc .vmem S2x2x64x512 .f32 := Memref.whole cc0_scratch0
abbrev staM : Memref sig .tc .vmem S2x2x2x1x512 .f32 := Memref.whole cc0_scratch1
abbrev sbM : Memref sig .tc .vmem S2x2x64x512 .bf16 := Memref.whole cc0_scratch2
abbrev rbM : Memref sig .tc .vmem S8x2x64x512 .bf16 := Memref.whole cc0_scratch3
abbrev rsM : Memref sig .tc .vmem S8x2x2x1x512 .f32 := Memref.whole cc0_scratch4

/-- Tile `t` of the accumulators, of the statistics, of the outgoing buffer; landing slot `(s, t)` of both kinds. -/
def accS (c : Dev nD) (t : Fin 2) (φ : (S2x2x64x512.Idx → Elt F .f32) → Prop) : sProp 𝕄 :=
  Held c accM (accM.access (rAcc t)).set φ
def staS (c : Dev nD) (t : Fin 2) (φ : (S2x2x2x1x512.Idx → Elt F .f32) → Prop) : sProp 𝕄 :=
  Held c staM (staM.access (rStats t)).set φ
def sbS (c : Dev nD) (t : Fin 2) (φ : (S2x2x64x512.Idx → Elt F .bf16) → Prop) : sProp 𝕄 :=
  Held c sbM (sbM.access (rAcc t)).set φ
def rbS (c : Dev nD) (s : Fin 4) (t : Fin 2) (φ : (S8x2x64x512.Idx → Elt F .bf16) → Prop) : sProp 𝕄 :=
  Held c rbM (rbM.access (rRb (slot s t))).set φ
def rsS (c : Dev nD) (s : Fin 4) (t : Fin 2) (φ : (S8x2x2x1x512.Idx → Elt F .f32) → Prop) : sProp 𝕄 :=
  Held c rsM (rsM.access (rRstats (slot s t))).set φ

/-- The landing slots `(s, t)` of device `c`, at any contents; of stage `s`. -/
def land (c : Dev nD) (s : Fin 4) (t : Fin 2) : sProp 𝕄 := iprop(rsS c s t (fun _ => True) ∗ rbS c s t (fun _ => True))
def lands (c : Dev nD) (s : Fin 4) : sProp 𝕄 := iprop(land (F := F) c s 0 ∗ land (F := F) c s 1)

/-! ## The schedule -/

/-- What a transfer cell hands over. -/
def xpay (I : In F) (c : Dev nD) : Fin 4 × Fin 4 × Fin 2 → sProp 𝕄
  | (0, s, t) => sbS c t (fun _ => True)
  | (1, s, t) => rbS c s t (rbF (slot s t) (Gen.k0_pay22 (st I s (partner s c) t).a))
  | (2, s, t) => staS c t (statF t (st I s c t).m (st I s c t).l)
  | (3, s, t) => rsS c s t (rstF (slot s t) (st I s (partner s c) t).m (st I s (partner s c) t).l)

def pay (I : In F) (c : Dev nD) (d : Fin 4) : Option CI → sProp 𝕄
  | some none => lands (partner d c) d
  | some (some x) => xpay I c x
  | none => iprop(emp)

def camt : Option CI → ℕ
  | some (some x) => amt x.1
  | _ => 1

def cduties : Option CI → Finset (Fin 4)
  | some none => Finset.univ
  | some (some _) => {0}
  | none => ∅

instance pay_storable (I : In F) (c : Dev nD) (d : Fin 4) (o : Option CI) : BI.Storable (upEmb : UEmb _ 𝕄) (pay I c d o) := by
  rcases o with _ | _ | ⟨k, s, t⟩
  · exact inferInstanceAs (BI.Storable (upEmb : UEmb _ 𝕄) iprop(emp))
  · show BI.Storable (upEmb : UEmb _ 𝕄) (lands (partner d c) d)
    unfold lands land rsS rbS
    infer_instance
  · exact match k with
    | 0 => by unfold pay xpay sbS; infer_instance
    | 1 => by unfold pay xpay rbS; infer_instance
    | 2 => by unfold pay xpay staS; infer_instance
    | 3 => by unfold pay xpay rsS; infer_instance

/-- One round for every cell: a barrier cell has a duty per stage, a transfer cell one duty. -/
def Rd (I : In F) : Schedule (GSem nD τ sig) (Fin 4) 𝕄 where
  duties g r := if r = 0 ∧ g.1.2 = .tc then cduties (decode g.2) else ∅
  unitless _ := False
  amount g _ _ := camt (decode g.2)
  payload g _ d := pay I g.1.1 d (decode g.2)
  amount_pos g _ _ _ := by
    rcases h : decode g.2 with _ | _ | x
    · exact Nat.one_pos
    · exact Nat.one_pos
    · exact amt_pos _

instance Rd_storable (I : In F) (g : GSem nD τ sig) (r : ℕ) (d : Fin 4) :
    BI.Storable (upEmb : UEmb _ 𝕄) ((Rd I).payload g r d) := pay_storable I g.1.1 d (decode g.2)

section Sched
variable (I : In F) (c : Dev nD) (k s : Fin 4) (t : Fin 2)

theorem duties_eq (i : CI) : (Rd I).duties (kcell c i) 0 = cduties (some i) := by
  show (if (0 : ℕ) = 0 ∧ (kcell c i).1.2 = Proc.tc then cduties (decode (csem i)) else ∅) = _
  rw [decode_csem]
  exact if_pos ⟨rfl, rfl⟩

theorem duties_later (g : GSem nD τ sig) : ∀ r, 1 ≤ r → (Rd I).duties g r = ∅ :=
  fun r hr => if_neg fun h => by omega

theorem amount_eq (i : CI) (d : Fin 4) : (Rd I).amount (kcell c i) 0 d = camt (some i) := by
  show camt (decode (csem i)) = _
  rw [decode_csem]

theorem payload_eq (i : CI) (d : Fin 4) : (Rd I).payload (kcell c i) 0 d = pay I c d (some i) := by
  show pay I c d (decode (csem i)) = _
  rw [decode_csem]

theorem expect_bar : (Rd I).expect (barCell c) 0 = 4 := by
  unfold Schedule.expect Schedule.amountOf
  rw [duties_eq, Finset.sum_congr rfl fun d _ => amount_eq I c none d]
  rfl

theorem expect_x (x : Fin 4 × Fin 4 × Fin 2) : (Rd I).expect (kcell c (some x)) 0 = amt x.1 := by
  unfold Schedule.expect Schedule.amountOf
  rw [duties_eq]
  show Finset.sum {0} _ = _
  rw [Finset.sum_singleton, amount_eq]
  rfl

theorem rest_bar : bigSep ((Rd I).duties (barCell c) 0 \ ∅) (fun d => (Rd I).payload (barCell c) 0 d)
    = bigSep Finset.univ fun d : Fin 4 => lands (F := F) (partner d c) d := by
  rw [Finset.sdiff_empty, duties_eq]
  exact bigSep_congr fun d _ => payload_eq I c none d

theorem rest_x (x : Fin 4 × Fin 4 × Fin 2) :
    bigSep ((Rd I).duties (kcell c (some x)) 0 \ ∅) (fun d => (Rd I).payload (kcell c (some x)) 0 d) = xpay I c x := by
  rw [Finset.sdiff_empty, duties_eq]
  show bigSep {0} _ = _
  rw [bigSep_singleton, payload_eq]
  rfl

end Sched

/-! ## What is owed, and the levels -/

/-- What device `c` owes for the transfers of one stage and tile. -/
def owedAt (c : Dev nD) (s : Fin 4) (t : Fin 2) : CellTallies nD τ sig Unit :=
  tallyAt (xcell (partner s c) 1 s t) () NO + tallyAt (xcell (partner s c) 3 s t) () NS

/-- What device `c` owes for its transfers from number `n` on. -/
def owedX (c : Dev nD) (n : ℕ) : CellTallies nD τ sig Unit :=
  ∑ x : Fin 4 × Fin 2, if n ≤ (slot x.1 x.2).val then owedAt c x.1 x.2 else 0

/-- What device `c` owes before its barrier signal number `n`. -/
def owedB (c : Dev nD) (n : ℕ) : CellTallies nD τ sig Unit :=
  owedX c 0 + ∑ s : Fin 4, if n ≤ s.val then tallyAt (barCell (partner s c)) () 1 else 0

theorem slot_inj (s s' : Fin 4) (t t' : Fin 2) (h : (slot s t).val = (slot s' t').val) : s = s' ∧ t = t' := by
  have e : 2 * s.val + t.val = 2 * s'.val + t'.val := h
  exact ⟨Fin.ext (by omega), Fin.ext (by omega)⟩

theorem owedX_step (c : Dev nD) (s : Fin 4) (t : Fin 2) :
    owedX c (slot s t).val = owedX c ((slot s t).val + 1) + tallyAt (xcell (partner s c) 1 s t) () NO
      + tallyAt (xcell (partner s c) 3 s t) () NS := by
  have e : ∀ x : Fin 4 × Fin 2, (if (slot s t).val ≤ (slot x.1 x.2).val then owedAt c x.1 x.2 else 0)
      = (if (slot s t).val + 1 ≤ (slot x.1 x.2).val then owedAt c x.1 x.2 else 0) + (if x = (s, t) then owedAt c s t else 0) := by
    rintro ⟨s', t'⟩
    by_cases h : (s', t') = (s, t)
    · obtain ⟨rfl, rfl⟩ := Prod.mk.inj h
      rw [if_pos (le_refl _), if_neg (Nat.not_succ_le_self _), if_pos rfl, zero_add]
    · have hne : (slot s' t').val ≠ (slot s t).val := fun e => h (by obtain ⟨rfl, rfl⟩ := slot_inj _ _ _ _ e; rfl)
      rw [if_neg h, add_zero]
      by_cases h' : (slot s t).val ≤ (slot s' t').val
      · rw [if_pos h', if_pos (by show (slot s t).val + 1 ≤ (slot s' t').val; omega)]
      · rw [if_neg h', if_neg (by show ¬ (slot s t).val + 1 ≤ (slot s' t').val; omega)]
  unfold owedX
  rw [Finset.sum_congr rfl fun x _ => e x, Finset.sum_add_distrib, Finset.sum_ite_eq' Finset.univ (s, t) fun _ => owedAt c s t,
    if_pos (Finset.mem_univ _), add_assoc]
  rfl

theorem owedX_end (c : Dev nD) (n : ℕ) (h : 8 ≤ n) : owedX c n = 0 := by
  unfold owedX
  exact Finset.sum_eq_zero fun x _ => if_neg (by have := (slot x.1 x.2).isLt; omega)

theorem owedB_step (c : Dev nD) (s : Fin 4) :
    owedB c s.val = owedB c (s.val + 1) + tallyAt (barCell (partner s c)) () 1 := by
  have e : ∀ x : Fin 4, (if s.val ≤ x.val then (tallyAt (barCell (partner x c)) () 1 : CellTallies nD τ sig Unit) else 0)
      = (if s.val + 1 ≤ x.val then tallyAt (barCell (partner x c)) () 1 else 0)
        + (if x = s then tallyAt (barCell (partner s c)) () 1 else 0) := by
    intro x
    by_cases h : x = s
    · subst h
      rw [if_pos (le_refl _), if_neg (Nat.not_succ_le_self _), if_pos rfl, zero_add]
    · have hne : x.val ≠ s.val := fun e => h (Fin.ext e)
      rw [if_neg h, add_zero]
      by_cases h' : s.val ≤ x.val
      · rw [if_pos h', if_pos (by omega)]
      · rw [if_neg h', if_neg (by omega)]
  unfold owedB
  rw [Finset.sum_congr rfl fun x _ => e x, Finset.sum_add_distrib, Finset.sum_ite_eq' Finset.univ s, if_pos (Finset.mem_univ _),
    add_assoc]

theorem owedB_end (c : Dev nD) : owedB c 4 = owedX c 0 := by
  unfold owedB
  rw [Finset.sum_eq_zero fun x _ => if_neg (by have := x.isLt; omega), add_zero]

def L (g : GSem nD τ sig) : Finset Unit := if g.1.2 = .tc then {()} else ∅

def clv : Option CI → ℕ
  | some none => 1
  | some (some (1, s, t)) => (slot s t).val + 2
  | some (some (3, s, t)) => (slot s t).val + 2
  | _ => 0

/-- Barrier cells come before landings, and those in the order of the transfers; every other cell is lowest. -/
def lv (g : GSem nD τ sig) (_ : Unit) : ℕ := clv (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_eq (c : Dev nD) (i : CI) (u : Unit) : lv (kcell c i) u = clv (some i) := by
  show clv (decode (csem i)) = _
  rw [decode_csem]

theorem sum_pos_exists {A : Type} [Fintype A] (f : A → CellTallies nD τ sig Unit) (g : GSem nD τ sig) (u : Unit)
    (h : 0 < (∑ x, f x) g u) : ∃ x, 0 < f x g u := by
  rw [Finset.sum_apply, Finsupp.finset_sum_apply] at h
  by_contra hn
  exact absurd h (by
    rw [Finset.sum_eq_zero fun x _ => Nat.eq_zero_of_not_pos fun h' => hn ⟨x, h'⟩]
    exact Nat.lt_irrefl 0)

theorem tallyAt_pos {g g' : GSem nD τ sig} {u : Unit} {n : ℕ} (h : 0 < (tallyAt g () n : CellTallies nD τ sig Unit) g' u) :
    g' = g := by
  by_contra hn
  rw [tallyAt_apply, if_neg fun h' => hn h'.1] at h
  exact Nat.lt_irrefl 0 h

theorem owedX_pos {c : Dev nD} {n : ℕ} {g : GSem nD τ sig} {u : Unit} (h : 0 < owedX c n g u) :
    ∃ s t, n ≤ (slot s t).val ∧ (g = xcell (partner s c) 1 s t ∨ g = xcell (partner s c) 3 s t) := by
  obtain ⟨⟨s, t⟩, h⟩ := sum_pos_exists _ g u h
  by_cases hn : n ≤ (slot s t).val
  · rw [if_pos hn] at h
    unfold owedAt at h
    rw [Pi.add_apply, Finsupp.add_apply] at h
    rcases Nat.eq_zero_or_pos ((tallyAt (xcell (partner s c) 1 s t) () NO : CellTallies nD τ sig Unit) g u) with h0 | h0
    · rw [h0, Nat.zero_add] at h
      exact ⟨s, t, hn, .inr (tallyAt_pos h)⟩
    · exact ⟨s, t, hn, .inl (tallyAt_pos h0)⟩
  · rw [if_neg hn] at h
    exact absurd h (Nat.lt_irrefl 0)

theorem owedB_pos {c : Dev nD} {n : ℕ} {g : GSem nD τ sig} {u : Unit} (h : 0 < owedB c n g u) :
    0 < owedX c 0 g u ∨ ∃ s : Fin 4, g = barCell (partner s c) := by
  unfold owedB at h
  rw [Pi.add_apply, Finsupp.add_apply] at h
  rcases Nat.eq_zero_or_pos (owedX c 0 g u) with h0 | h0
  · rw [h0, Nat.zero_add] at h
    obtain ⟨s, h⟩ := sum_pos_exists _ g u h
    by_cases hn : n ≤ s.val
    · rw [if_pos hn] at h
      exact .inr ⟨s, tallyAt_pos h⟩
    · rw [if_neg hn] at h
      exact absurd h (Nat.lt_irrefl 0)
  · exact .inl h0

theorem lv_owedX {c : Dev nD} {n : ℕ} {g : GSem nD τ sig} {u : Unit} (h : 0 < owedX c n g u) : n + 2 ≤ lv g u := by
  obtain ⟨s, t, hn, rfl | rfl⟩ := owedX_pos h <;> rw [lv_eq] <;> exact Nat.add_le_add_right hn 2

theorem mem_owedX {c : Dev nD} {n : ℕ} {g : GSem nD τ sig} {u : Unit} (h : 0 < owedX c n g u) : u ∈ L g := by
  obtain ⟨s, t, hn, rfl | rfl⟩ := owedX_pos h <;> rw [L_tc] <;> exact Finset.mem_singleton_self _

/-- A device may wait at a cell whose level lies below those of the transfers it still owes. -/
theorem mayWaitX (c : Dev nD) (sm : SemLoc sig) (n : ℕ) (h : lv ((c : Thread nD τ), sm) () < n + 2) :
    (levAts L lv : sProp 𝕄) ⊢ MayWait (c : Thread nD τ) sm () (owedX c n) :=
  MayOwe.of_cut (L := L) (lev := lv) (lv ((c : Thread nD τ), sm) ())
    (fun p hp => by rw [Finset.mem_singleton.mp hp, L_tc]; exact Finset.mem_singleton_self _)
    (fun g u hg => mem_owedX hg)
    (fun p hp => by rw [Finset.mem_singleton.mp hp])
    (fun g u hg => lt_of_lt_of_le h (lv_owedX hg))

/-- At its lowest cells a device may wait whatever it owes. -/
theorem mayWait_low (c : Dev nD) (q : DmaSem sig) (hq : decode (.dma q) = none) (O : CellTallies nD τ sig Unit)
    (hO : O = owedB c 0 ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => ?_)
      (fun p hp => by
        rw [Finset.mem_singleton.mp hp]
        show clv (decode (.dma q)) ≤ 0
        rw [hq]
        exact le_refl 0)
      (fun g u hg => ?_)
    · rcases owedB_pos hg with h | ⟨s, rfl⟩
      · exact mem_owedX h
      · rw [L_tc]; exact Finset.mem_singleton_self _
    · rcases owedB_pos hg with h | ⟨s, rfl⟩
      · exact lt_of_lt_of_le (by decide) (lv_owedX h)
      · rw [lv_eq]; exact Nat.one_pos
  · rw [MayWait_zero]; iintro -; iempintro

end Cert.KernelIdeal.Proto

end
-- ==== Proof.KernelIdeal.Compute.lean ====
/-
  The phases without communication: what `partial(t)` and `project(t)` leave in the buffers they are given.
-/
module

public import proofs.«01_k».proof.Proof.KernelIdeal.Protocol

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev 𝒱₀ : Variants := Variants.none

/-- The weakest precondition of a program of device `c`. -/
abbrev WP (c : Dev nD) (k : P (F := F)) (Q : PUnit → sProp 𝕄) : sProp 𝕄 :=
  wp frame (wpE (defs₀ (F := F)) 𝒱₀ (c : Thread nD τ) none) Set.univ k Q

/-- A whole buffer held at contents with a property. -/
abbrev All {sp : Space} {s : Shape} {e : EltTy} (c : Dev nD) (m : Memref sig .tc sp s e) (φ : (s.Idx → Elt F e) → Prop) : sProp 𝕄 :=
  Held c m Finset.univ φ

variable (c : Dev nD) (Q : PUnit → sProp (MT nD τ sig Unit (Elt F) ℕ UU ℕ))

theorem wp_kv (src : Memref sig .tc .vmem S2x128x2x64 .f32) (dst : Memref sig .tc .vmem S2x2x128x64 .f32) (t g : Fin 2)
    (K : Vec F S2x128x2x64 .f32) (n n' : ℕ) (hn : n = g.val) (hn' : n' = g.val + 1) (k : P (F := F)) :
    iprop(All c src (· = K) ∗ All c dst (kvF t K n))
      ⊢ iprop((iprop(All c src (· = K) ∗ All c dst (kvF t K n')) -∗ WP c k Q) -∗ WP c (kvK src dst t g k) Q) := by
  subst hn hn'
  unfold kvK
  iintro ⟨Hs, Hd⟩ Hk
  iapply (loadW 𝒱₀ c none Set.univ (fun j => K ((rKv t g).emb j)) (fun f hf => by rw [hf])) $$ Hs
  iintro Hs
  iapply (loadW_ 𝒱₀ c none Set.univ) $$ Hd
  iintro Hd
  iapply (storeW 𝒱₀ c none Set.univ (kvF t K (g.val + 1))
    (fun f f' h h1 h2 => kvF_step t g K f f' h h1 h2)) $$ Hd
  iintro Hd
  iapply Hk
  isplitl [Hs] <;> iassumption

theorem wp_head (dst : Memref sig .tc .vmem S2x2x512x64 .f32) (t : Fin 2) (h : Fin 8) (q : FVec F S128x512 .f32) (n n' : ℕ)
    (hn : n = h.val) (hn' : n' = h.val + 1) (k : P (F := F)) :
    All c dst (qF t q n) ⊢ iprop((All c dst (qF t q n') -∗ WP c k Q) -∗ WP c (headK dst t h q k) Q) := by
  subst hn hn'
  unfold headK
  iintro Hd Hk
  iapply (loadW_ 𝒱₀ c none Set.univ) $$ Hd
  iintro Hd
  iapply (storeW 𝒱₀ c none Set.univ (qF t q (h.val + 1))
    (fun f f' h0 h1 h2 => qF_step t h q f f' h0 h1 h2)) $$ Hd
  iintro Hd
  iapply Hk
  iexact Hd

theorem stat_sub (t k : Fin 2) : (staM.access (rStat t k)).set ⊆ (staM.access (rStats t)).set :=
  access_subset fun j => by
    rw [emb_stat]
    refine (LoadRect.mem_set _).mpr fun a => ?_
    have h0 : (j 2).val < 2 := (j 2).isLt
    have h1 : (j 3).val < 1 := (j 3).isLt
    have h2 : (j 4).val < 512 := (j 4).isLt
    have h3 := k.isLt
    fin_cases a
    · exact ⟨0, Nat.one_pos, by simp⟩
    · exact ⟨k.val, h3, by simp⟩
    · exact ⟨(j 2).val, h0, by simp⟩
    · exact ⟨(j 3).val, h1, by simp⟩
    · exact ⟨(j 4).val, h2, by simp⟩

theorem lh_sub (t : Fin 2) (h : Fin 8) : (staM.access (rLh t h)).set ⊆ (staM.access (rStats t)).set :=
  access_subset fun j => by
    rw [emb_lh]
    refine (LoadRect.mem_set _).mpr fun a => ?_
    fin_cases a
    · exact ⟨0, Nat.one_pos, by simp⟩
    · exact ⟨1, Nat.one_lt_two, by simp⟩
    · exact ⟨(grp h).val, (grp h).isLt, by simp⟩
    · exact ⟨0, Nat.one_pos, by simp⟩
    · exact ⟨(row h (j 4)).val, (row h (j 4)).isLt, by simp⟩

theorem ah_sub (t : Fin 2) (h : Fin 8) : (accM.access (rAh t h)).set ⊆ (accM.access (rAcc t)).set :=
  access_subset fun j => by
    rw [emb_ah]
    refine (LoadRect.mem_set _).mpr fun a => ?_
    fin_cases a
    · exact ⟨0, Nat.one_pos, by simp⟩
    · exact ⟨(grp h).val, (grp h).isLt, by simp⟩
    · exact ⟨(j 2).val, (j 2).isLt, by simp⟩
    · exact ⟨(row h (j 3)).val, (row h (j 3)).isLt, by simp⟩

theorem kv0 (t : Fin 2) (K : Vec F S2x128x2x64 .f32) (f : S2x2x128x64.Idx → Elt F .f32) : kvF t K 0 f :=
  fun _ h => absurd h (Nat.not_lt_zero _)
theorem q0 (t : Fin 2) (q : FVec F S128x512 .f32) (f : S2x2x512x64.Idx → Elt F .f32) : qF t q 0 f :=
  fun _ h => absurd h (Nat.not_lt_zero _)
theorem o0 (p : St F) (f : S512x128.Idx → Elt F .f32) : oF p 0 f := fun _ h => absurd h (Nat.not_lt_zero _)

theorem first_a (t : Fin 2) (x : Vec F S2x128x512 .f32) (wq : Vec F S512x512 .f32) (K V : Vec F S2x128x2x64 .f32) :
    (first t x wq K V).a = Gen.k0_pay19 (kAll t K) (qAll (Gen.k0_pay6 (xT t x) wq)) (kAll t V) := by unfold first; dsimp only
theorem first_m (t : Fin 2) (x : Vec F S2x128x512 .f32) (wq : Vec F S512x512 .f32) (K V : Vec F S2x128x2x64 .f32) :
    (first t x wq K V).m = Gen.k0_pay20 (kAll t K) (qAll (Gen.k0_pay6 (xT t x) wq)) := by unfold first; dsimp only
theorem first_l (t : Fin 2) (x : Vec F S2x128x512 .f32) (wq : Vec F S512x512 .f32) (K V : Vec F S2x128x2x64 .f32) :
    (first t x wq K V).l = Gen.k0_pay21 (kAll t K) (qAll (Gen.k0_pay6 (xT t x) wq)) := by unfold first; dsimp only

/-- What `partial(t)` and `project(t)` do not change: the input windows. -/
def ins (arg0 : Memref sig .tc .vmem S2x128x512 .f32) (arg1 arg2 : Memref sig .tc .vmem S512x512 .f32)
    (arg3 arg4 : Memref sig .tc .vmem S2x128x2x64 .f32) (x : Vec F S2x128x512 .f32) (wq wo : Vec F S512x512 .f32)
    (K V : Vec F S2x128x2x64 .f32) : sProp 𝕄 :=
  iprop(All c arg0 (· = x) ∗ All c arg1 (· = wq) ∗ All c arg2 (· = wo) ∗ All c arg3 (· = K) ∗ All c arg4 (· = V))

/-- The scratch that holds keys, values and queries, at any contents. -/
def tmp (arg11 arg12 : Memref sig .tc .vmem S2x2x128x64 .f32) (arg13 : Memref sig .tc .vmem S2x2x512x64 .f32) : sProp 𝕄 :=
  iprop(All c arg11 (fun _ => True) ∗ All c arg12 (fun _ => True) ∗ All c arg13 (fun _ => True))

/-- `partial(t)` leaves the first state of tile `t`. -/
theorem wp_partial (arg0 : Memref sig .tc .vmem S2x128x512 .f32) (arg1 arg2 : Memref sig .tc .vmem S512x512 .f32)
    (arg3 arg4 : Memref sig .tc .vmem S2x128x2x64 .f32) (arg11 arg12 : Memref sig .tc .vmem S2x2x128x64 .f32)
    (arg13 : Memref sig .tc .vmem S2x2x512x64 .f32) (t : Fin 2) (x : Vec F S2x128x512 .f32) (wq wo : Vec F S512x512 .f32)
    (K V : Vec F S2x128x2x64 .f32) (k : P (F := F)) :
    iprop(ins c arg0 arg1 arg2 arg3 arg4 x wq wo K V ∗ tmp c arg11 arg12 arg13
        ∗ accS c t (fun _ => True) ∗ staS c t (fun _ => True))
      ⊢ iprop((iprop(ins c arg0 arg1 arg2 arg3 arg4 x wq wo K V ∗ tmp c arg11 arg12 arg13
            ∗ accS c t (accF t (first t x wq K V).a) ∗ staS c t (statF t (first t x wq K V).m (first t x wq K V).l))
          -∗ WP c k Q)
        -∗ WP c (partialK arg0 arg1 arg3 arg4 accM staM arg11 arg12 arg13 t k) Q) := by
  unfold ins tmp accS staS partialK
  iintro ⟨⟨Hx, Hwq, Hwo, HK, HV⟩, ⟨Hkb, Hvb, Hqg⟩, Ha, Hs⟩ Hk
  ihave Hkb := (Held.mono (ψ := kvF t K 0) fun f _ => kv0 t K f) $$ Hkb
  ihave Hvb := (Held.mono (ψ := kvF t V 0) fun f _ => kv0 t V f) $$ Hvb
  ihave Hqg := (Held.mono (ψ := qF t (Gen.k0_pay6 (xT t x) wq) 0) fun f _ => q0 t _ f) $$ Hqg
  iapply (wp_kv c Q arg3 arg11 t 0 K 0 1 rfl rfl _) $$ [HK Hkb]
  · isplitl [HK]
    · iexact HK
    · iexact Hkb
  iintro ⟨HK, Hkb⟩
  iapply (wp_kv c Q arg4 arg12 t 0 V 0 1 rfl rfl _) $$ [HV Hvb]
  · isplitl [HV]
    · iexact HV
    · iexact Hvb
  iintro ⟨HV, Hvb⟩
  iapply (wp_kv c Q arg3 arg11 t 1 K 1 2 rfl rfl _) $$ [HK Hkb]
  · isplitl [HK]
    · iexact HK
    · iexact Hkb
  iintro ⟨HK, Hkb⟩
  iapply (wp_kv c Q arg4 arg12 t 1 V 1 2 rfl rfl _) $$ [HV Hvb]
  · isplitl [HV]
    · iexact HV
    · iexact Hvb
  iintro ⟨HV, Hvb⟩
  iapply (loadW 𝒱₀ c none Set.univ (xT t x) (fun f hf => by rw [hf]; exact xT_read t x)) $$ Hx
  iintro Hx
  iapply (loadW 𝒱₀ c none Set.univ wq (fun f hf => by rw [hf]; funext j; rw [emb_w])) $$ Hwq
  iintro Hwq
  iapply (wp_head c Q arg13 t 0 (Gen.k0_pay6 (xT t x) wq) 0 1 rfl rfl _) $$ Hqg
  iintro Hqg
  iapply (wp_head c Q arg13 t 1 (Gen.k0_pay6 (xT t x) wq) 1 2 rfl rfl _) $$ Hqg
  iintro Hqg
  iapply (wp_head c Q arg13 t 2 (Gen.k0_pay6 (xT t x) wq) 2 3 rfl rfl _) $$ Hqg
  iintro Hqg
  iapply (wp_head c Q arg13 t 3 (Gen.k0_pay6 (xT t x) wq) 3 4 rfl rfl _) $$ Hqg
  iintro Hqg
  iapply (wp_head c Q arg13 t 4 (Gen.k0_pay6 (xT t x) wq) 4 5 rfl rfl _) $$ Hqg
  iintro Hqg
  iapply (wp_head c Q arg13 t 5 (Gen.k0_pay6 (xT t x) wq) 5 6 rfl rfl _) $$ Hqg
  iintro Hqg
  iapply (wp_head c Q arg13 t 6 (Gen.k0_pay6 (xT t x) wq) 6 7 rfl rfl _) $$ Hqg
  iintro Hqg
  iapply (wp_head c Q arg13 t 7 (Gen.k0_pay6 (xT t x) wq) 7 8 rfl rfl _) $$ Hqg
  iintro Hqg
  iapply (loadW 𝒱₀ c none Set.univ (kAll t K) (fun f (hf : kvF t K 2 f) => kvF_done t K f hf)) $$ Hkb
  iintro Hkb
  iapply (loadW 𝒱₀ c none Set.univ (qAll (Gen.k0_pay6 (xT t x) wq))
    (fun f (hf : qF t _ 8 f) => qF_done t _ f hf)) $$ Hqg
  iintro Hqg
  iapply (loadW 𝒱₀ c none Set.univ (kAll t V) (fun f (hf : kvF t V 2 f) => kvF_done t V f hf)) $$ Hvb
  iintro Hvb
  iapply (load_ 𝒱₀ c none Set.univ (Finset.Subset.refl _)) $$ Ha
  iintro Ha
  iapply (store 𝒱₀ c none Set.univ (accF t (Gen.k0_pay19 (kAll t K) (qAll (Gen.k0_pay6 (xT t x) wq)) (kAll t V))) (Finset.Subset.refl _) (fun f f' h h1 h2 => h1)) $$ Ha
  iintro Ha
  iapply (load_ 𝒱₀ c none Set.univ (stat_sub t 0)) $$ Hs
  iintro Hs
  iapply (store 𝒱₀ c none Set.univ (mF t (Gen.k0_pay20 (kAll t K) (qAll (Gen.k0_pay6 (xT t x) wq)))) (stat_sub t 0) (fun f f' h h1 h2 => h1)) $$ Hs
  iintro Hs
  iapply (load_ 𝒱₀ c none Set.univ (stat_sub t 1)) $$ Hs
  iintro Hs
  iapply (store 𝒱₀ c none Set.univ (statF t (Gen.k0_pay20 (kAll t K) (qAll (Gen.k0_pay6 (xT t x) wq))) (Gen.k0_pay21 (kAll t K) (qAll (Gen.k0_pay6 (xT t x) wq)))) (stat_sub t 1)
    (fun f f' h h1 h2 => ⟨fun j => (h2 _ (stat_apart t 0 1 (by decide) j)).trans (h j), h1⟩)) $$ Hs
  iintro Hs
  ihave Ha := (Held.mono (ψ := accF t (first t x wq K V).a) fun f (h : accF t (Gen.k0_pay19 (kAll t K) (qAll (Gen.k0_pay6 (xT t x) wq)) (kAll t V)) f) => by rw [first_a]; exact h) $$ Ha
  ihave Hs := (Held.mono (ψ := statF t (first t x wq K V).m (first t x wq K V).l) fun f (h : statF t (Gen.k0_pay20 (kAll t K) (qAll (Gen.k0_pay6 (xT t x) wq))) (Gen.k0_pay21 (kAll t K) (qAll (Gen.k0_pay6 (xT t x) wq))) f) => by
    rw [first_m, first_l]; exact h) $$ Hs
  iapply Hk
  ihave Hkb := (Held.mono (ψ := fun _ => True) fun f _ => trivial) $$ Hkb
  ihave Hvb := (Held.mono (ψ := fun _ => True) fun f _ => trivial) $$ Hvb
  ihave Hqg := (Held.mono (ψ := fun _ => True) fun f _ => trivial) $$ Hqg
  isplitl [Hx Hwq Hwo HK HV]
  · isplitl [Hx]; · iexact Hx
    isplitl [Hwq]; · iexact Hwq
    isplitl [Hwo]; · iexact Hwo
    isplitl [HK] <;> iassumption
  isplitl [Hkb Hvb Hqg]
  · isplitl [Hkb]; · iexact Hkb
    isplitl [Hvb] <;> iassumption
  isplitl [Ha] <;> iassumption

theorem wp_col (arg14 : Memref sig .tc .vmem S512x128 .f32) (t : Fin 2) (h : Fin 8) (p : St F) (n n' : ℕ) (hn : n = h.val)
    (hn' : n' = h.val + 1) (k : P (F := F)) :
    iprop(accS c t (accF t p.a) ∗ staS c t (statF t p.m p.l) ∗ All c arg14 (oF p n))
      ⊢ iprop((iprop(accS c t (accF t p.a) ∗ staS c t (statF t p.m p.l) ∗ All c arg14 (oF p n')) -∗ WP c k Q)
        -∗ WP c (colK accM staM arg14 t h k) Q) := by
  subst hn hn'
  unfold accS staS colK
  iintro ⟨Ha, Hs, Ho⟩ Hk
  iapply (load 𝒱₀ c none Set.univ (lCol p.l h) (lh_sub t h) (fun f hf => lCol_read t h p.m p.l f hf)) $$ Hs
  iintro Hs
  iapply (load 𝒱₀ c none Set.univ (aCol p.a h) (ah_sub t h) (fun f hf => aCol_read t h p.a f hf)) $$ Ha
  iintro Ha
  iapply (loadW_ 𝒱₀ c none Set.univ) $$ Ho
  iintro Ho
  iapply (storeW 𝒱₀ c none Set.univ (oF p (h.val + 1))
    (fun f f' h0 h1 h2 => oF_step p h f f' h0 h1 h2)) $$ Ho
  iintro Ho
  iapply Hk
  isplitl [Ha]; · iexact Ha
  isplitl [Hs] <;> iassumption

/-- `project(t)` leaves the output of tile `t`. -/
theorem wp_project (arg2 : Memref sig .tc .vmem S512x512 .f32) (arg5 : Memref sig .tc .vmem S2x128x512 .f32)
    (arg14 : Memref sig .tc .vmem S512x128 .f32) (t : Fin 2) (p : St F) (wo : Vec F S512x512 .f32)
    (o : Fin 2 → FVec F S1x128x512 .f32) (ho : o t = outT p wo) (k : P (F := F)) :
    iprop(accS c t (accF t p.a) ∗ staS c t (statF t p.m p.l) ∗ All c arg14 (fun _ => True) ∗ All c arg2 (· = wo)
        ∗ All c arg5 (outF o t.val))
      ⊢ iprop((iprop(accS c t (accF t p.a) ∗ staS c t (statF t p.m p.l) ∗ All c arg14 (fun _ => True) ∗ All c arg2 (· = wo)
            ∗ All c arg5 (outF o (t.val + 1))) -∗ WP c k Q)
        -∗ WP c (projectK arg2 arg5 accM staM arg14 t k) Q) := by
  unfold projectK
  iintro ⟨Ha, Hs, Ho, Hw, Hout⟩ Hk
  ihave Ho := (Held.mono (ψ := oF p 0) fun f _ => o0 p f) $$ Ho
  iapply (wp_col c Q arg14 t 0 p 0 1 rfl rfl _) $$ [Ha Hs Ho]
  · isplitl [Ha]; · iexact Ha
    isplitl [Hs]
    · iexact Hs
    · iexact Ho
  iintro ⟨Ha, Hs, Ho⟩
  iapply (wp_col c Q arg14 t 1 p 1 2 rfl rfl _) $$ [Ha Hs Ho]
  · isplitl [Ha]; · iexact Ha
    isplitl [Hs]
    · iexact Hs
    · iexact Ho
  iintro ⟨Ha, Hs, Ho⟩
  iapply (wp_col c Q arg14 t 2 p 2 3 rfl rfl _) $$ [Ha Hs Ho]
  · isplitl [Ha]; · iexact Ha
    isplitl [Hs]
    · iexact Hs
    · iexact Ho
  iintro ⟨Ha, Hs, Ho⟩
  iapply (wp_col c Q arg14 t 3 p 3 4 rfl rfl _) $$ [Ha Hs Ho]
  · isplitl [Ha]; · iexact Ha
    isplitl [Hs]
    · iexact Hs
    · iexact Ho
  iintro ⟨Ha, Hs, Ho⟩
  iapply (wp_col c Q arg14 t 4 p 4 5 rfl rfl _) $$ [Ha Hs Ho]
  · isplitl [Ha]; · iexact Ha
    isplitl [Hs]
    · iexact Hs
    · iexact Ho
  iintro ⟨Ha, Hs, Ho⟩
  iapply (wp_col c Q arg14 t 5 p 5 6 rfl rfl _) $$ [Ha Hs Ho]
  · isplitl [Ha]; · iexact Ha
    isplitl [Hs]
    · iexact Hs
    · iexact Ho
  iintro ⟨Ha, Hs, Ho⟩
  iapply (wp_col c Q arg14 t 6 p 6 7 rfl rfl _) $$ [Ha Hs Ho]
  · isplitl [Ha]; · iexact Ha
    isplitl [Hs]
    · iexact Hs
    · iexact Ho
  iintro ⟨Ha, Hs, Ho⟩
  iapply (wp_col c Q arg14 t 7 p 7 8 rfl rfl _) $$ [Ha Hs Ho]
  · isplitl [Ha]; · iexact Ha
    isplitl [Hs]
    · iexact Hs
    · iexact Ho
  iintro ⟨Ha, Hs, Ho⟩
  iapply (loadW 𝒱₀ c none Set.univ (oAll p) (fun f (hf : oF p 8 f) => oF_done p f hf)) $$ Ho
  iintro Ho
  iapply (loadW 𝒱₀ c none Set.univ wo (fun f hf => by rw [hf]; funext j; rw [emb_w])) $$ Hw
  iintro Hw
  iapply (loadW_ 𝒱₀ c none Set.univ) $$ Hout
  iintro Hout
  iapply (storeW 𝒱₀ c none Set.univ (outF o (t.val + 1))
    (fun f f' h0 h1 h2 => outF_step o t f f' h0 (fun j => by rw [ho]; exact h1 j) h2)) $$ Hout
  iintro Hout
  iapply Hk
  ihave Ho := (Held.mono (ψ := fun _ => True) fun f _ => trivial) $$ Ho
  isplitl [Ha]; · iexact Ha
  isplitl [Hs]; · iexact Hs
  isplitl [Ho]; · iexact Ho
  isplitl [Hw] <;> iassumption

end Cert.KernelIdeal.Proto

end
-- ==== Proof.KernelIdeal.Exchange.lean ====
/-
  The phases with communication: `send(s, t)` hands tile `t`'s statistics and narrowed accumulator to the partner of stage
  `s`, `combine(s, t)` takes the partner's and merges them into the tile's state.
-/
module

public import proofs.«01_k».proof.Proof.KernelIdeal.Compute

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ UU ℕ

variable (I : In F) (K : Dev nD × CI → ℕ) (c : Dev nD) (Q : PUnit → sProp (MT nD τ sig Unit (Elt F) ℕ UU ℕ))

/-! ## The records of all cells, and what one device holds of them -/

/-- Every cell's invariant under its name, and that every cell has reached its only round. -/
def recs : sProp 𝕄 :=
  iprop((bigSep Finset.univ fun x : Dev nD × CI => cellInv ER (Rd I) (K x) (kcell x.1 x.2))
    ∗ bigSep Finset.univ fun x : Dev nD × CI => reached ER (kcell x.1 x.2) 0)

instance recs_persistent : BI.Persistent (recs I K) := by unfold recs; infer_instance

theorem recs_inv (d : Dev nD) (i : CI) : (recs I K : sProp 𝕄) ⊢ cellInv ER (Rd I) (K (d, i)) (kcell d i) := by
  unfold recs
  exact (sep_elim_left (PROP := sProp 𝕄)).trans (bigSep_elim (Finset.mem_univ (d, i)))

theorem recs_reached (d : Dev nD) (i : CI) : (recs I K : sProp 𝕄) ⊢ reached ER (kcell d i) 0 := by
  unfold recs
  exact (sep_elim_right (PROP := sProp 𝕄)).trans (bigSep_elim (Finset.mem_univ (d, i)))

/-- The duties that device `c` pays at stage `s` for tile `t`. -/
def tok (s : Fin 4) (t : Fin 2) : sProp 𝕄 :=
  iprop(dutyTok ER (xcell c 2 s t) 0 0 ∗ dutyTok ER (xcell (partner s c) 3 s t) 0 0
    ∗ dutyTok ER (xcell c 0 s t) 0 0 ∗ dutyTok ER (xcell (partner s c) 1 s t) 0 0)

/-- Device `c` stands at the beginning of its four cells of stage `s` and tile `t`. -/
def pos (s : Fin 4) (t : Fin 2) : sProp 𝕄 :=
  iprop(atPos ER (xcell c 0 s t) 0 ∅ 0 ∗ atPos ER (xcell c 1 s t) 0 ∅ 0
    ∗ atPos ER (xcell c 2 s t) 0 ∅ 0 ∗ atPos ER (xcell c 3 s t) 0 ∅ 0)

/-- What the partner will raise device `c`'s landing cells by. -/
def crs (s : Fin 4) (t : Fin 2) : sProp 𝕄 :=
  iprop(cred (tallyAt (xcell c 1 s t) () NO) ∗ cred (tallyAt (xcell c 3 s t) () NS))

/-- What device `c`'s own transfers will raise its sending cells by. -/
def sent (s : Fin 4) (t : Fin 2) : sProp 𝕄 :=
  iprop(cred (tallyAt (xcell c 2 s t) () NS) ∗ cred (tallyAt (xcell c 0 s t) () NO))

/-- The four counters are at zero and the device's again. -/
def zero (s : Fin 4) (t : Fin 2) : sProp 𝕄 :=
  iprop(semVal (xcell c 0 s t) 0 ∗ semVal (xcell c 1 s t) 0 ∗ semVal (xcell c 2 s t) 0 ∗ semVal (xcell c 3 s t) 0)

/-- What device `c` owes, whatever it has waited for. -/
def Ow (O : CellTallies nD τ sig Unit) : sProp 𝕄 := iprop(∃ W, owes (c : Thread nD τ) O W)

/-! ## One transfer and one wait -/

/-- A transfer of a squeezed rectangle held on device `c` to one held on device `p`. -/
theorem send (p : Dev nD) {κ₁ κ₂ : ℕ} {x₁ x₂ : Fin 4 × Fin 4 × Fin 2} {sS sem : DmaSem sig} (h₁ : xsem x₁ = sS) (h₂ : xsem x₂ = sem)
    {s s' u : Shape} {e : EltTy} {M : Memref sig .tc .vmem s e} {M' : Memref sig .tc .vmem s' e} {r : Rect s} {r' : Rect s'}
    {hr : ∀ a, r.stride a = 1} {hr' : ∀ a, r'.stride a = 1} {q : r.shape.Squeezes u} {q' : r'.shape.Squeezes u}
    {hsc : ((M'.slice r' hr').squeeze u q' : Memref sig (Dev.tc p : Thread nD τ).2.kind .vmem u e).view.ref.isScScratch = false}
    {hsrc : ((M.slice r hr).squeeze u q).view.WordExact} {hdst : ((M'.slice r' hr').squeeze u q').view.WordExact}
    {hsem : DmaTarget.Typed .vmem (.dma sem) (.remote (Dev.tc p : Thread nD τ) ((M'.slice r' hr').squeeze u q') (.dma sS) hsc)}
    (k : P (F := F)) {φ : (s.Idx → Elt F e) → Prop} (ψ : (s'.Idx → Elt F e) → Prop)
    {O₀ : CellTallies nD τ sig Unit} (O : CellTallies nD τ sig Unit) (N : ℕ) (hO : O₀ = O + tallyAt (kcell p (some x₂)) () N)
    (hN : ((M'.slice r' hr').squeeze u q').view.dmaCredit = N) (ha₁ : amt x₁.1 = N) (ha₂ : amt x₂.1 = N)
    (h : ∀ g g', φ g → (∀ y : u.Idx, g' (r'.emb (Shape.reshapeEquiv q'.numel_eq y)) = g (r.emb (Shape.reshapeEquiv q.numel_eq y))) → ψ g')
    (hp₁ : (Held c M (M.access r).set φ : sProp 𝕄) ⊢ xpay I c x₁) (hp₂ : (Held p M' (M'.access r').set ψ : sProp 𝕄) ⊢ xpay I p x₂) :
    iprop(cellInv ER (Rd I) κ₁ (kcell c (some x₁)) ∗ cellInv ER (Rd I) κ₂ (kcell p (some x₂))
        ∗ Held c M (M.access r).set φ ∗ Held p M' (M'.access r').set (fun _ => True) ∗ Ow c O₀
        ∗ dutyTok ER (kcell c (some x₁)) 0 0 ∗ reached ER (kcell c (some x₁)) 0
        ∗ dutyTok ER (kcell p (some x₂)) 0 0 ∗ reached ER (kcell p (some x₂)) 0)
      ⊢ iprop((iprop(cred (tallyAt (kcell c (some x₁)) () N) ∗ Ow c O) -∗ WP c k Q)
        -∗ WP c (.op (.enqueueDma ((M.slice r hr).squeeze u q)
            (.remote (Dev.tc p : Thread nD τ) ((M'.slice r' hr').squeeze u q') (.dma sS) hsc) (.dma sem) hsrc hdst hsem) fun _ => k) Q) := by
  subst h₁ h₂
  unfold Ow
  iintro ⟨HI1, HI2, HM, HM', ⟨%W, HO⟩, Ht1, Hr1, Ht2, Hr2⟩ Hk
  unfold Held
  icases HM with ⟨%fs, %hfs, HM⟩
  icases HM' with ⟨%fd, -, HM'⟩
  iapply (Rounds.wp_send_pointsTo 𝒱₀ ER (Rd I) (c : Thread nD τ) none (c' := (p : Thread nD τ)) (src := (M.slice r hr).squeeze u q)
    (dst := (M'.slice r' hr').squeeze u q') (hsc := hsc) (sS := .dma (xsem x₁)) (sem := .dma (xsem x₂)) (κ₁ := κ₁) (κ₂ := κ₂)
    (hsrc := hsrc) (hdst := hdst) (hsem := hsem) (k := fun _ => k) (Q := Q) (q := fullShare)
    (r₁ := 0) (r₂ := 0) (d₁ := 0) (d₂ := 0) (fs := fs) (fd := fd)
    (by
      have := duties_eq I c (some x₁)
      show (0 : Fin 4) ∈ (Rd I).duties (kcell c (some x₁)) 0
      rw [this]; exact Finset.mem_singleton_self _)
    (by
      have := duties_eq I p (some x₂)
      show (0 : Fin 4) ∈ (Rd I).duties (kcell p (some x₂)) 0
      rw [this]; exact Finset.mem_singleton_self _)
    () () N hN ((amount_eq I c (some x₁) 0).trans ha₁) ((amount_eq I p (some x₂) 0).trans ha₂) O hO (W := W)
    (by
      rw [view_set hr q]
      exact ((Held.intro (c := c) (m := M) (S := (M.access r).set) (φ := φ) fs hfs).trans hp₁).trans
        (Entails.of_eq (payload_eq I c (some x₁) 0).symm))
    (((landed hr hr' q q' c p h fs fd hfs).trans hp₂).trans (Entails.of_eq (payload_eq I p (some x₂) 0).symm)))
    $$ [HI1 HI2 HM HM' HO Ht1 Hr1 Ht2 Hr2]
  · isplitl [HI1]; · iexact HI1
    isplitl [HI2]; · iexact HI2
    isplitl [HM]
    · rw [view_set hr q]; iexact HM
    isplitl [HM']
    · rw [view_set hr' q']; iexact HM'
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W
  iexact HO

/-- A wait at one of the device's transfer cells: its payload, and the counter closed at zero. -/
theorem wait (x : Fin 4 × Fin 4 × Fin 2) {sem : DmaSem sig} (hs : xsem x = sem) {sp sp' : Space} {s s' : Shape} {e e' : EltTy}
    {src : Memref sig .tc sp s e} {dst : Memref sig .tc sp' s' e'}
    {hsrc : src.view.WordExact} {hdst : dst.view.WordExact} (k : P (F := F)) (n : ℕ) (N : ℕ) (hN : dst.view.dmaCredit = N) (ha : amt x.1 = N)
    (hlv : clv (some (some x)) < n + 2) :
    iprop(recs I K ∗ levAts L lv ∗ cred (tallyAt (kcell c (some x)) () N) ∗ Ow c (owedX c n) ∗ atPos ER (kcell c (some x)) 0 ∅ 0)
      ⊢ iprop((iprop(Ow c (owedX c n) ∗ semVal (kcell c (some x)) 0 ∗ xpay I c x) -∗ WP c k Q)
        -∗ WP c (.op (.waitDma2 sem src dst hsrc hdst) fun _ => k) Q) := by
  subst hs
  unfold Ow
  iintro ⟨#HR, #Hlev, Hc, ⟨%W, HO⟩, Hat⟩ Hk
  ihave #HI := (recs_inv I K c (some x)) $$ HR
  iapply (Rounds.wp_wait_rest_token 𝒱₀ ER (Rd I) (c : Thread nD τ) none (κ := K (c, some x)) (sm := .dma (xsem x)) (k' := dst.view.dmaCredit)
      (wpE_waitDma2_eq 𝒱₀ (c : Thread nD τ) none Set.univ) (Set.mem_univ _) () (O := owedX c n) (W := W) (R := 0) (m := 0) (T := ∅)
      (by rw [Nat.zero_add]; exact (hN.trans ha.symm).trans (expect_x I c x).symm)) $$ [Hc HO Hat]
  · isplitr; · iexact HI
    isplitl [Hc]; · rw [hN]; iexact Hc
    isplitl [HO]; · iexact HO
    isplitr
    · iapply (mayWaitX c (.dma (xsem x)) n (by
        have := lv_eq c (some x) ()
        rw [show lv ((c : Thread nD τ), SemLoc.dma (xsem x)) () = clv (some (some x)) from this]; exact hlv))
      iexact Hlev
    iexact Hat
  iintro ⟨HO, Hat, -, Hpay⟩
  ihave Hp := (show bigSep ((Rd I).duties ((c : Thread nD τ), SemLoc.dma (xsem x)) 0 \ ∅)
      (fun d => (Rd I).payload ((c : Thread nD τ), SemLoc.dma (xsem x)) 0 d) ⊢ xpay I c x from Entails.of_eq (rest_x I c x)) $$ Hpay
  imod (Rounds.cell_close ER (Rd I) (Set.mem_univ (K (c, some x))) (fun h => h) (R := 0 + 1) (duties_later I (kcell c (some x)))) $$ [Hat] with Hz
  · isplitr; · iexact HI
    iexact Hat
  iapply Hk
  isplitl [HO]
  · iexists _; iexact HO
  isplitl [Hz]; · iexact Hz
  iexact Hp

/-! ## What lands -/

theorem land_stats (t : Fin 2) (n : Fin 8) (m l : Vec F S1x1x2x1x512 .f32) (g : S2x2x2x1x512.Idx → Elt F .f32)
    (g' : S8x2x2x1x512.Idx → Elt F .f32) (hg : statF t m l g)
    (h : ∀ x : S1x2x2x1x512.Idx, g' ((rRstats n).emb x) = g ((rStats t).emb x)) : rstF n m l g' := by
  have key : ∀ (j : Fin 2) (x : S1x1x2x1x512.Idx), g' ((rRstat n j).emb x) = g ((rStat t j).emb x) := fun j x => by
    have := h (ix5 0 j (x 2) (x 3) (x 4))
    rw [emb_rstats, emb_stats] at this
    rw [emb_rstat, emb_stat]
    exact this
  exact ⟨fun x => (key 0 x).trans (hg.1 x), fun x => (key 1 x).trans (hg.2 x)⟩

theorem rstat_sub (n : Fin 8) (k : Fin 2) : (rsM.access (rRstat n k)).set ⊆ (rsM.access (rRstats n)).set :=
  access_subset fun j => by
    rw [emb_rstat]
    refine (LoadRect.mem_set _).mpr fun a => ?_
    have h0 : (j 2).val < 2 := (j 2).isLt
    have h1 : (j 3).val < 1 := (j 3).isLt
    have h2 : (j 4).val < 512 := (j 4).isLt
    have h3 := k.isLt
    fin_cases a
    · exact ⟨0, Nat.one_pos, by simp⟩
    · exact ⟨k.val, h3, by simp⟩
    · exact ⟨(j 2).val, h0, by simp⟩
    · exact ⟨(j 3).val, h1, by simp⟩
    · exact ⟨(j 4).val, h2, by simp⟩

/-! ## What the loads read, and what the transfers raise -/

theorem accF_read (t : Fin 2) (a : Vec F S1x2x64x512 .f32) (f : S2x2x64x512.Idx → Elt F .f32) (h : accF t a f) :
    (fun j => f ((rAcc t).emb j)) = a := funext h
theorem rbF_read (n : Fin 8) (a : Vec F S1x2x64x512 .bf16) (f : S8x2x64x512.Idx → Elt F .bf16) (h : rbF n a f) :
    (fun j => f ((rRb n).emb j)) = a := funext h
theorem statF_m (t : Fin 2) (m l : Vec F S1x1x2x1x512 .f32) (f : S2x2x2x1x512.Idx → Elt F .f32) (h : statF t m l f) :
    (fun j => f ((rStat t 0).emb j)) = m := funext h.1
theorem statF_l (t : Fin 2) (m l : Vec F S1x1x2x1x512 .f32) (f : S2x2x2x1x512.Idx → Elt F .f32) (h : statF t m l f) :
    (fun j => f ((rStat t 1).emb j)) = l := funext h.2
theorem rstF_m (n : Fin 8) (m l : Vec F S1x1x2x1x512 .f32) (f : S8x2x2x1x512.Idx → Elt F .f32) (h : rstF n m l f) :
    (fun j => f ((rRstat n 0).emb j)) = m := funext h.1
theorem rstF_l (n : Fin 8) (m l : Vec F S1x1x2x1x512 .f32) (f : S8x2x2x1x512.Idx → Elt F .f32) (h : rstF n m l f) :
    (fun j => f ((rRstat n 1).emb j)) = l := funext h.2

theorem credit_stats (t : Fin 2) : (vStats staM t).view.dmaCredit = NS := rfl
theorem credit_rstats (n : Fin 8) : (vRstats rsM n).view.dmaCredit = NS := rfl
theorem credit_out (t : Fin 2) : (vOut sbM t).view.dmaCredit = NO := rfl
theorem credit_rout (n : Fin 8) : (vRout rbM n).view.dmaCredit = NO := rfl

/-! ## The two phases -/

variable (arg8h : sbM.IsWhole) (arg9h : rbM.IsWhole)

/-- `send(s, t)`: the accumulator stays, statistics and narrowed accumulator are on their way to the partner. -/
theorem wp_send (s : Fin 4) (t : Fin 2) (p p' : Dev nD) (hp : p = partner s c) (hp' : p' = partner s c) (k : P (F := F)) :
    iprop(recs I K ∗ tok c s t ∗ accS c t (accF t (st I s c t).a) ∗ staS c t (statF t (st I s c t).m (st I s c t).l)
        ∗ sbS c t (fun _ => True) ∗ land (partner s c) s t ∗ Ow c (owedX c (slot s t).val))
      ⊢ iprop((iprop(accS c t (accF t (st I s c t).a) ∗ sent c s t ∗ Ow c (owedX c ((slot s t).val + 1))) -∗ WP c k Q)
        -∗ WP c (sendK accM staM sbM arg8h rbM arg9h rsM cc0_scratch9 cc0_scratch10 cc0_scratch11 cc0_scratch12 s t p p' k) Q) := by
  subst hp hp'
  unfold sendK tok land accS staS sbS rsS rbS sent
  iintro ⟨#HR, ⟨Ht2, Ht3, Ht0, Ht1⟩, Ha, Hs, Hb, ⟨Hls, Hlb⟩, HO⟩ Hk
  iapply (load 𝒱₀ c none Set.univ (st I s c t).a (Finset.Subset.refl _) (accF_read t _)) $$ Ha
  iintro Ha
  iapply (load_ 𝒱₀ c none Set.univ (Finset.Subset.refl _)) $$ Hb
  iintro Hb
  iapply (store 𝒱₀ c none Set.univ (sbF t (Gen.k0_pay22 (st I s c t).a)) (Finset.Subset.refl _) (fun f f' h h1 h2 => h1)) $$ Hb
  iintro Hb
  iapply (send I c Q (partner s c) (κ₁ := K (c, some (2, s, t))) (κ₂ := K (partner s c, some (3, s, t))) (x₁ := (2, s, t)) (x₂ := (3, s, t)) rfl rfl
    (M := staM) (M' := rsM) (r := rStats t) (r' := rRstats (slot s t)) _
    (φ := statF t (st I s c t).m (st I s c t).l)
    (rstF (slot s t) (st I s c t).m (st I s c t).l)
    (owedX c ((slot s t).val + 1) + tallyAt (xcell (partner s c) 1 s t) () NO) NS (owedX_step c s t) (credit_rstats (slot s t)) rfl rfl
    (fun g g' hg h => land_stats t (slot s t) _ _ g g' hg fun x => by
      have := h ((Shape.reshapeEquiv (squeezes_S1x2x2x1x512_S2x2x1x512).numel_eq).symm x)
      rwa [Equiv.apply_symm_apply] at this)
    (BI.Entails.refl _)
    (by
      show _ ⊢ rsS (partner s c) s t (rstF (slot s t) (st I s (partner s (partner s c)) t).m (st I s (partner s (partner s c)) t).l)
      rw [partner_partner]
      exact BI.Entails.refl _)) $$ [Ht2 Ht3 Hs Hls HO]
  · isplitr; · iapply (recs_inv I K c (some (2, s, t))); iexact HR
    isplitr; · iapply (recs_inv I K (partner s c) (some (3, s, t))); iexact HR
    isplitl [Hs]; · iexact Hs
    isplitl [Hls]; · iexact Hls
    isplitl [HO]; · iexact HO
    isplitl [Ht2]; · iexact Ht2
    isplitr; · iapply (recs_reached I K c (some (2, s, t))); iexact HR
    isplitl [Ht3]; · iexact Ht3
    iapply (recs_reached I K (partner s c) (some (3, s, t))); iexact HR
  iintro ⟨Hc2, HO⟩
  iapply (send I c Q (partner s c) (κ₁ := K (c, some (0, s, t))) (κ₂ := K (partner s c, some (1, s, t))) (x₁ := (0, s, t)) (x₂ := (1, s, t)) rfl rfl
    (M := sbM) (M' := rbM) (r := rAcc t) (r' := rRb (slot s t)) _
    (φ := sbF t (Gen.k0_pay22 (st I s c t).a))
    (rbF (slot s t) (Gen.k0_pay22 (st I s c t).a))
    (owedX c ((slot s t).val + 1)) NO rfl (credit_rout (slot s t)) rfl rfl
    (fun g g' hg h x => by
      have := h ((Shape.reshapeEquiv (squeezes_S1x2x64x512_S2x64x512).numel_eq).symm x)
      rw [Equiv.apply_symm_apply] at this
      exact this.trans (hg x))
    (Held.mono fun _ _ => trivial)
    (by
      show _ ⊢ rbS (partner s c) s t (rbF (slot s t) (Gen.k0_pay22 (st I s (partner s (partner s c)) t).a))
      rw [partner_partner]
      exact BI.Entails.refl _)) $$ [Ht0 Ht1 Hb Hlb HO]
  · isplitr; · iapply (recs_inv I K c (some (0, s, t))); iexact HR
    isplitr; · iapply (recs_inv I K (partner s c) (some (1, s, t))); iexact HR
    isplitl [Hb]; · iexact Hb
    isplitl [Hlb]; · iexact Hlb
    isplitl [HO]; · iexact HO
    isplitl [Ht0]; · iexact Ht0
    isplitr; · iapply (recs_reached I K c (some (0, s, t))); iexact HR
    isplitl [Ht1]; · iexact Ht1
    iapply (recs_reached I K (partner s c) (some (1, s, t))); iexact HR
  iintro ⟨Hc0, HO⟩
  iapply Hk
  isplitl [Ha]; · iexact Ha
  isplitl [Hc2 Hc0]
  · isplitl [Hc2] <;> iassumption
  iexact HO

/-- `combine(s, t)`: the tile's state is the next one; the buffers that the exchange used are the device's again. -/
theorem wp_combine (s : Fin 4) (t : Fin 2) (n : ℕ) (hn : (slot s t).val < n) (k : P (F := F)) :
    iprop(recs I K ∗ levAts L lv ∗ pos c s t ∗ crs c s t ∗ sent c s t ∗ accS c t (accF t (st I s c t).a) ∗ Ow c (owedX c n))
      ⊢ iprop((iprop(accS c t (accF t (st I (s.val + 1) c t).a) ∗ staS c t (statF t (st I (s.val + 1) c t).m (st I (s.val + 1) c t).l)
            ∗ sbS c t (fun _ => True) ∗ land c s t ∗ zero c s t ∗ Ow c (owedX c n)) -∗ WP c k Q)
        -∗ WP c (combineK accM staM sbM arg8h rbM arg9h rsM cc0_scratch9 cc0_scratch10 cc0_scratch11 cc0_scratch12 s t k) Q) := by
  unfold combineK pos crs sent accS
  iintro ⟨#HR, #Hlev, ⟨Hp0, Hp1, Hp2, Hp3⟩, ⟨Hc1, Hc3⟩, ⟨Hc2, Hc0⟩, Ha, HO⟩ Hk
  iapply (wait I K c Q (2, s, t) rfl (src := vRstats rsM (slot s t)) (dst := vStats staM t) _ n NS (credit_stats t) rfl (Nat.succ_pos _)) $$ [Hp2 Hc2 HO]
  · isplitr; · iexact HR
    isplitr; · iexact Hlev
    isplitl [Hc2]; · iexact Hc2
    isplitl [HO]; · iexact HO
    iexact Hp2
  iintro ⟨HO, Hz2, Hs⟩
  iapply (wait I K c Q (3, s, t) rfl (src := vStats staM t) (dst := vRstats rsM (slot s t)) _ n NS (credit_rstats (slot s t)) rfl (Nat.add_lt_add_right hn 2)) $$ [Hp3 Hc3 HO]
  · isplitr; · iexact HR
    isplitr; · iexact Hlev
    isplitl [Hc3]; · iexact Hc3
    isplitl [HO]; · iexact HO
    iexact Hp3
  iintro ⟨HO, Hz3, Hr⟩
  unfold xpay staS rsS
  iapply (load 𝒱₀ c none Set.univ (st I s c t).m (stat_sub t 0) (statF_m t _ (st I s c t).l)) $$ Hs
  iintro Hs
  iapply (load 𝒱₀ c none Set.univ (st I s c t).l (stat_sub t 1) (statF_l t (st I s c t).m _)) $$ Hs
  iintro Hs
  iapply (load 𝒱₀ c none Set.univ (st I s (partner s c) t).m (rstat_sub (slot s t) 0)
    (rstF_m (slot s t) _ (st I s (partner s c) t).l)) $$ Hr
  iintro Hr
  iapply (load 𝒱₀ c none Set.univ (st I s (partner s c) t).l (rstat_sub (slot s t) 1)
    (rstF_l (slot s t) (st I s (partner s c) t).m _)) $$ Hr
  iintro Hr
  iapply (load_ 𝒱₀ c none Set.univ (stat_sub t 0)) $$ Hs
  iintro Hs
  iapply (store 𝒱₀ c none Set.univ (mF t (nextM (st I s c t).m (st I s (partner s c) t).m)) (stat_sub t 0) (fun f f' h h1 h2 => h1)) $$ Hs
  iintro Hs
  iapply (load_ 𝒱₀ c none Set.univ (stat_sub t 1)) $$ Hs
  iintro Hs
  iapply (store 𝒱₀ c none Set.univ
    (statF t (nextM (st I s c t).m (st I s (partner s c) t).m)
      (nextL (st I s c t).m (st I s c t).l (st I s (partner s c) t).m (st I s (partner s c) t).l)) (stat_sub t 1)
    (fun f f' h h1 h2 => ⟨fun j => (h2 _ (stat_apart t 0 1 (by decide) j)).trans (h j), h1⟩)) $$ Hs
  iintro Hs
  iapply (load 𝒱₀ c none Set.univ (st I s c t).a (Finset.Subset.refl _) (accF_read t _)) $$ Ha
  iintro Ha
  iapply (load_ 𝒱₀ c none Set.univ (Finset.Subset.refl _)) $$ Ha
  iintro Ha
  iapply (store 𝒱₀ c none Set.univ (accF t (scaleA (st I s c t).m (st I s (partner s c) t).m (st I s c t).a)) (Finset.Subset.refl _)
    (fun f f' h h1 h2 => h1)) $$ Ha
  iintro Ha
  iapply (wait I K c Q (0, s, t) rfl (src := vRout rbM (slot s t)) (dst := vOut sbM t) _ n NO (credit_out t) rfl (Nat.succ_pos _)) $$ [Hp0 Hc0 HO]
  · isplitr; · iexact HR
    isplitr; · iexact Hlev
    isplitl [Hc0]; · iexact Hc0
    isplitl [HO]; · iexact HO
    iexact Hp0
  iintro ⟨HO, Hz0, Hb⟩
  iapply (wait I K c Q (1, s, t) rfl (src := vOut sbM t) (dst := vRout rbM (slot s t)) _ n NO (credit_rout (slot s t)) rfl (Nat.add_lt_add_right hn 2)) $$ [Hp1 Hc1 HO]
  · isplitr; · iexact HR
    isplitr; · iexact Hlev
    isplitl [Hc1]; · iexact Hc1
    isplitl [HO]; · iexact HO
    iexact Hp1
  iintro ⟨HO, Hz1, Hrb⟩
  unfold xpay sbS rbS
  iapply (load 𝒱₀ c none Set.univ (scaleA (st I s c t).m (st I s (partner s c) t).m (st I s c t).a) (Finset.Subset.refl _)
    (accF_read t _)) $$ Ha
  iintro Ha
  iapply (load 𝒱₀ c none Set.univ (Gen.k0_pay22 (st I s (partner s c) t).a) (Finset.Subset.refl _)
    (rbF_read (slot s t) _)) $$ Hrb
  iintro Hrb
  iapply (load_ 𝒱₀ c none Set.univ (Finset.Subset.refl _)) $$ Ha
  iintro Ha
  iapply (store 𝒱₀ c none Set.univ (accF t (st I (s.val + 1) c t).a) (Finset.Subset.refl _) (fun f f' h h1 h2 => h1)) $$ Ha
  iintro Ha
  iapply Hk
  isplitl [Ha]; · iexact Ha
  isplitl [Hs]; · iexact Hs
  isplitl [Hb]; · iexact Hb
  isplitl [Hr Hrb]
  · unfold land rsS rbS
    isplitl [Hr]
    · iapply (Held.mono fun _ _ => trivial); iexact Hr
    · iapply (Held.mono fun _ _ => trivial); iexact Hrb
  isplitl [Hz0 Hz1 Hz2 Hz3]
  · unfold zero
    isplitl [Hz0]; · iexact Hz0
    isplitl [Hz1]; · iexact Hz1
    isplitl [Hz2] <;> iassumption
  iexact HO

end Cert.KernelIdeal.Proto

end
-- ==== Proof.KernelIdeal.Body.lean ====
/-
  The whole body on one device: the barrier's signals and its wait, and the phases in program order. What the device is
  given, what it gives back.
-/
module

public import proofs.«01_k».proof.Proof.KernelIdeal.Exchange

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F) (K : Dev nD × CI → ℕ) (c : Dev nD) (Q : PUnit → sProp (MT nD τ sig Unit (Elt F) ℕ UU ℕ))

/-! ## The barrier -/

/-- A signal to the partner of stage `d`, with the device's own landing slots of that stage. -/
theorem wp_sig (d : Fin 4) (p : Dev nD) (hp : p = partner d c) (n n' : ℕ) (hn : n = d.val) (hn' : n' = d.val + 1) (k : P (F := F)) :
    iprop(recs I K ∗ dutyTok ER (barCell (partner d c)) 0 d ∗ lands c d ∗ Ow c (owedB c n))
      ⊢ iprop((Ow c (owedB c n') -∗ WP c k Q) -∗ WP c (.op (.semSignal (p, .tc) barSem (1#32).toInt) fun _ => k) Q) := by
  subst hp hn hn'
  unfold Ow
  iintro ⟨#HR, Ht, Hl, ⟨%W, HO⟩⟩ Hk
  iapply (Rounds.wp_signal 𝒱₀ ER (Rd I) (c : Thread nD τ) none (dst := (partner d c : Thread nD τ)) (sem := barSem) (κ := K (partner d c, none))
      (r := 0) (d := d) (k := fun _ => k) (Q := Q)
      (by
        have := duties_eq I (partner d c) none
        show d ∈ (Rd I).duties (kcell (partner d c) none) 0
        rw [this]; exact Finset.mem_univ _)
      ((amount_eq I (partner d c) none d).trans (by decide)) () (owedB c (d.val + 1)) (owedB_step c d) (W := W)) $$ [Ht Hl HO]
  · isplitr; · iapply (recs_inv I K (partner d c) none); iexact HR
    isplitl [HO]; · iexact HO
    isplitl [Ht]; · iexact Ht
    isplitl [Hl]
    · iapply (show (lands c d : sProp 𝕄) ⊢ (Rd I).payload ((partner d c : Thread nD τ), SemLoc.reg barSem) 0 d from by
        refine Entails.of_eq (Eq.trans ?_ (payload_eq I (partner d c) none d).symm)
        show lands c d = lands (partner d (partner d c)) d
        rw [partner_partner])
      iexact Hl
    · iapply (recs_reached I K (partner d c) none); iexact HR
  iintro HO
  iapply Hk
  iexists W
  iexact HO

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The wait for all four partners: their landing slots are the device's. -/
theorem wp_barrier (k : P (F := F)) :
    iprop(recs I K ∗ levAts L lv ∗ cred (tallyAt (barCell c) () 4) ∗ Ow c (owedX c 0) ∗ atPos ER (barCell c) 0 ∅ 0)
      ⊢ iprop((iprop(Ow c (owedX c 0) ∗ semVal (barCell c) 0 ∗ lands (partner (0 : Fin 4) c) 0 ∗ lands (partner (1 : Fin 4) c) 1
            ∗ lands (partner (2 : Fin 4) c) 2 ∗ lands (partner (3 : Fin 4) c) 3) -∗ WP c k Q)
        -∗ WP c (.op (.semWait barSem (4#32).toInt) fun _ => k) Q) := by
  unfold Ow
  iintro ⟨#HR, #Hlev, Hc, ⟨%W, HO⟩, Hat⟩ Hk
  ihave #HI := (recs_inv I K c none) $$ HR
  iapply (Rounds.wp_wait_rest_token 𝒱₀ ER (Rd I) (c : Thread nD τ) none (κ := K (c, none)) (sm := .reg barSem)
      (wpE_semWait_eq 𝒱₀ (c : Thread nD τ) none Set.univ) (Set.mem_univ _) () (O := owedX c 0) (W := W) (R := 0) (m := 0) (T := ∅)
      (by rw [show (Rd I).expect ((c : Thread nD τ), SemLoc.reg barSem) 0 = 4 from expect_bar I c]; decide)) $$ [Hc HO Hat]
  · isplitr; · iexact HI
    isplitl [Hc]; · iexact Hc
    isplitl [HO]; · iexact HO
    isplitr
    · iapply (mayWaitX c (.reg barSem) 0 (by
        rw [show lv ((c : Thread nD τ), SemLoc.reg barSem) () = 1 from lv_eq c none ()]; decide))
      iexact Hlev
    iexact Hat
  iintro ⟨HO, Hat, -, Hpay⟩
  ihave Hp := (show bigSep ((Rd I).duties ((c : Thread nD τ), SemLoc.reg barSem) 0 \ ∅)
      (fun d => (Rd I).payload ((c : Thread nD τ), SemLoc.reg barSem) 0 d)
      ⊢ iprop(lands (partner (0 : Fin 4) c) 0 ∗ lands (partner (1 : Fin 4) c) 1
            ∗ lands (partner (2 : Fin 4) c) 2 ∗ lands (partner (3 : Fin 4) c) 3) from
    Entails.of_eq ((rest_bar I c).trans (bigSep_four _))) $$ Hpay
  imod (Rounds.cell_close ER (Rd I) (Set.mem_univ (K (c, none))) (fun h => h) (R := 0 + 1) (duties_later I (barCell c))) $$ [Hat] with Hz
  · isplitr; · iexact HI
    iexact Hat
  iapply Hk
  isplitl [HO]
  · iexists _; iexact HO
  isplitl [Hz]; · iexact Hz
  iexact Hp

/-! ## A stage, from one exchange to the next -/

/-- What device `c` needs to send at stage `s`; to receive; what it has back after. -/
def out (s : Fin 4) (t : Fin 2) : sProp 𝕄 := iprop(tok c s t ∗ land (partner s c) s t)
def inc (s : Fin 4) (t : Fin 2) : sProp 𝕄 := iprop(pos c s t ∗ crs c s t)
def done (s : Fin 4) (t : Fin 2) : sProp 𝕄 := iprop(land c s t ∗ zero c s t)

/-- Tile `t` between its transfers of stage `s` and their arrival. -/
def flying (s : Fin 4) (t : Fin 2) : sProp 𝕄 := iprop(accS c t (accF t (st I s c t).a) ∗ sent c s t)

/-- Tile `t` with its state `p`, nothing under way. -/
def tile (t : Fin 2) (p : St F) : sProp 𝕄 :=
  iprop(accS c t (accF t p.a) ∗ staS c t (statF t p.m p.l) ∗ sbS c t (fun _ => True))

variable (arg8h : sbM.IsWhole) (arg9h : rbM.IsWhole)

theorem wp_first (s : Fin 4) (t : Fin 2) (p p' : Dev nD) (hp : p = partner s c) (hp' : p' = partner s c) (n n' : ℕ)
    (hn : n = (slot s t).val) (hn' : n' = (slot s t).val + 1) (k : P (F := F)) :
    iprop(recs I K ∗ out c s t ∗ tile c t (st I s c t) ∗ Ow c (owedX c n))
      ⊢ iprop((iprop(flying I c s t ∗ Ow c (owedX c n')) -∗ WP c k Q)
        -∗ WP c (sendK accM staM sbM arg8h rbM arg9h rsM cc0_scratch9 cc0_scratch10 cc0_scratch11 cc0_scratch12 s t p p' k) Q) := by
  subst hn hn'
  unfold out tile flying
  iintro ⟨#HR, ⟨Ht, Hl⟩, ⟨Ha, Hs, Hb⟩, HO⟩ Hk
  iapply (wp_send I K c Q arg8h arg9h s t p p' hp hp' k) $$ [Ht Hl Ha Hs Hb HO]
  · isplitr; · iexact HR
    isplitl [Ht]; · iexact Ht
    isplitl [Ha]; · iexact Ha
    isplitl [Hs]; · iexact Hs
    isplitl [Hb]; · iexact Hb
    isplitl [Hl]; · iexact Hl
    iexact HO
  iintro ⟨Ha, Hsent, HO⟩
  iapply Hk
  isplitl [Ha Hsent]
  · isplitl [Ha] <;> iassumption
  iexact HO

theorem wp_last (s : Fin 4) (t : Fin 2) (n : ℕ) (hn : (slot s t).val < n) (k : P (F := F)) :
    iprop(recs I K ∗ levAts L lv ∗ inc c s t ∗ flying I c s t ∗ Ow c (owedX c n))
      ⊢ iprop((iprop(tile c t (st I (s.val + 1) c t) ∗ done c s t ∗ Ow c (owedX c n)) -∗ WP c k Q)
        -∗ WP c (combineK accM staM sbM arg8h rbM arg9h rsM cc0_scratch9 cc0_scratch10 cc0_scratch11 cc0_scratch12 s t k) Q) := by
  unfold inc tile flying done
  iintro ⟨#HR, #Hlev, ⟨Hp, Hc⟩, ⟨Ha, Hs⟩, HO⟩ Hk
  iapply (wp_combine I K c Q arg8h arg9h s t n hn k) $$ [Hp Hc Ha Hs HO]
  · isplitr; · iexact HR
    isplitr; · iexact Hlev
    isplitl [Hp]; · iexact Hp
    isplitl [Hc]; · iexact Hc
    isplitl [Hs]; · iexact Hs
    isplitl [Ha]; · iexact Ha
    iexact HO
  iintro ⟨Ha, Hs, Hb, Hl, Hz, HO⟩
  iapply Hk
  isplitl [Ha Hs Hb]
  · isplitl [Ha]; · iexact Ha
    isplitl [Hs] <;> iassumption
  isplitl [Hl Hz]
  · isplitl [Hl] <;> iassumption
  iexact HO

/-- `combine(s, t)` and then `send(s', t)` of the next stage. -/
theorem wp_round (s s' : Fin 4) (t : Fin 2) (hs : s'.val = s.val + 1) (p p' : Dev nD) (hp : p = partner s' c) (hp' : p' = partner s' c)
    (n n' : ℕ) (hn : n = (slot s' t).val) (hn' : n' = (slot s' t).val + 1) (k : P (F := F)) :
    iprop(recs I K ∗ levAts L lv ∗ inc c s t ∗ out c s' t ∗ flying I c s t ∗ Ow c (owedX c n))
      ⊢ iprop((iprop(flying I c s' t ∗ done c s t ∗ Ow c (owedX c n')) -∗ WP c k Q)
        -∗ WP c (combineK accM staM sbM arg8h rbM arg9h rsM cc0_scratch9 cc0_scratch10 cc0_scratch11 cc0_scratch12 s t
            (sendK accM staM sbM arg8h rbM arg9h rsM cc0_scratch9 cc0_scratch10 cc0_scratch11 cc0_scratch12 s' t p p' k)) Q) := by
  have hlt : (slot s t).val < n := by
    rw [hn]
    show 2 * s.val + t.val < 2 * s'.val + t.val
    omega
  iintro ⟨#HR, #Hlev, Hi, Ho, Hf, HO⟩ Hk
  iapply (wp_last I K c Q arg8h arg9h s t n hlt _) $$ [Hi Hf HO]
  · isplitr; · iexact HR
    isplitr; · iexact Hlev
    isplitl [Hi]; · iexact Hi
    isplitl [Hf]; · iexact Hf
    iexact HO
  rw [← hs]
  iintro ⟨Ht, Hd, HO⟩
  iapply (wp_first I K c Q arg8h arg9h s' t p p' hp hp' n n' hn hn' k) $$ [Ho Ht HO]
  · isplitr; · iexact HR
    isplitl [Ho]; · iexact Ho
    isplitl [Ht]; · iexact Ht
    iexact HO
  iintro ⟨Hf, HO⟩
  iapply Hk
  isplitl [Hf]; · iexact Hf
  isplitl [Hd] <;> iassumption

/-! ## The whole body -/

/-- Tile `t`'s state at the end. -/
def last (t : Fin 2) : St F := st I ((3 : Fin 4).val + 1) c t

/-- The buffers of tile `t` at any contents. -/
def blank (t : Fin 2) : sProp 𝕄 :=
  iprop(accS (F := F) c t (fun _ => True) ∗ staS (F := F) c t (fun _ => True) ∗ sbS (F := F) c t (fun _ => True))

theorem tile_blank (t : Fin 2) (p : St F) : (tile c t p : sProp 𝕄) ⊢ blank (F := F) c t := by
  unfold tile blank accS staS sbS
  iintro ⟨Ha, Hs, Hb⟩
  isplitl [Ha]; · iapply (Held.mono fun _ _ => trivial); iexact Ha
  isplitl [Hs]; · iapply (Held.mono fun _ _ => trivial); iexact Hs
  iexact Hb

/-- What the device has of the exchanges of stage `s` before, and after. -/
def before (s : Fin 4) : sProp 𝕄 := iprop((tok c s 0 ∗ inc c s 0) ∗ (tok c s 1 ∗ inc c s 1))
def after (s : Fin 4) : sProp 𝕄 := iprop(done c s 0 ∗ done c s 1)

/-- What the device has of the barrier before. -/
def bar : sProp 𝕄 :=
  iprop(atPos ER (barCell c) 0 ∅ 0 ∗ cred (tallyAt (barCell c) () 4)
    ∗ (dutyTok ER (barCell (partner (0 : Fin 4) c)) 0 0 ∗ dutyTok ER (barCell (partner (1 : Fin 4) c)) 0 1
      ∗ dutyTok ER (barCell (partner (2 : Fin 4) c)) 0 2 ∗ dutyTok ER (barCell (partner (3 : Fin 4) c)) 0 3)
    ∗ (lands (F := F) c 0 ∗ lands (F := F) c 1 ∗ lands (F := F) c 2 ∗ lands (F := F) c 3))

section Whole

variable (arg0 : Memref sig .tc .vmem S2x128x512 .f32) (arg1 arg2 : Memref sig .tc .vmem S512x512 .f32)
  (arg3 arg4 : Memref sig .tc .vmem S2x128x2x64 .f32) (arg5 : Memref sig .tc .vmem S2x128x512 .f32)
  (arg11 arg12 : Memref sig .tc .vmem S2x2x128x64 .f32) (arg13 : Memref sig .tc .vmem S2x2x512x64 .f32)
  (arg14 : Memref sig .tc .vmem S512x128 .f32)

/-- `partial(t)` from blank buffers to the tile's first state. -/
theorem wp_start (t : Fin 2) (k : P (F := F)) :
    iprop(ins c arg0 arg1 arg2 arg3 arg4 (I.x c) (I.wq c) (I.wo c) (I.k c) (I.v c) ∗ tmp c arg11 arg12 arg13 ∗ blank c t)
      ⊢ iprop((iprop(ins c arg0 arg1 arg2 arg3 arg4 (I.x c) (I.wq c) (I.wo c) (I.k c) (I.v c) ∗ tmp c arg11 arg12 arg13
            ∗ tile c t (st I (0 : Fin 4).val c t)) -∗ WP c k Q)
        -∗ WP c (partialK arg0 arg1 arg3 arg4 accM staM arg11 arg12 arg13 t k) Q) := by
  rw [show st I (0 : Fin 4).val c t = first t (I.x c) (I.wq c) (I.k c) (I.v c) from rfl]
  unfold blank tile
  iintro ⟨Hin, Htmp, ⟨Ha, Hs, Hb⟩⟩ Hk
  iapply (wp_partial c Q arg0 arg1 arg2 arg3 arg4 arg11 arg12 arg13 t (I.x c) (I.wq c) (I.wo c) (I.k c) (I.v c) k) $$ [Hin Htmp Ha Hs]
  · isplitl [Hin]; · iexact Hin
    isplitl [Htmp]; · iexact Htmp
    isplitl [Ha] <;> iassumption
  iintro ⟨Hin, Htmp, Ha, Hs⟩
  iapply Hk
  isplitl [Hin]; · iexact Hin
  isplitl [Htmp]; · iexact Htmp
  isplitl [Ha]; · iexact Ha
  isplitl [Hs] <;> iassumption

/-- `project(t)` of the tile's last state. -/
theorem wp_end (t : Fin 2) (n n' : ℕ) (hn : n = t.val) (hn' : n' = t.val + 1) (k : P (F := F)) :
    iprop(tile c t (st I ((3 : Fin 4).val + 1) c t) ∗ All c arg14 (fun _ => True)
        ∗ ins c arg0 arg1 arg2 arg3 arg4 (I.x c) (I.wq c) (I.wo c) (I.k c) (I.v c)
        ∗ All c arg5 (outF (fun t => outT (last I c t) (I.wo c)) n))
      ⊢ iprop((iprop(blank c t ∗ All c arg14 (fun _ => True)
            ∗ ins c arg0 arg1 arg2 arg3 arg4 (I.x c) (I.wq c) (I.wo c) (I.k c) (I.v c)
            ∗ All c arg5 (outF (fun t => outT (last I c t) (I.wo c)) n')) -∗ WP c k Q)
        -∗ WP c (projectK arg2 arg5 accM staM arg14 t k) Q) := by
  subst hn hn'
  rw [show st I ((3 : Fin 4).val + 1) c t = last I c t from rfl]
  unfold ins tile
  iintro ⟨⟨Ha, Hs, Hb⟩, H14, ⟨Hx, Hwq, Hwo, HK, HV⟩, H5⟩ Hk
  iapply (wp_project c Q arg2 arg5 arg14 t (last I c t) (I.wo c) (fun t => outT (last I c t) (I.wo c)) rfl k) $$ [Ha Hs H14 Hwo H5]
  · isplitl [Ha]; · iexact Ha
    isplitl [Hs]; · iexact Hs
    isplitl [H14]; · iexact H14
    isplitl [Hwo]; · iexact Hwo
    iexact H5
  iintro ⟨Ha, Hs, H14, Hwo, H5⟩
  iapply Hk
  isplitl [Ha Hs Hb]
  · iapply (tile_blank c t (last I c t))
    unfold tile
    isplitl [Ha]; · iexact Ha
    isplitl [Hs] <;> iassumption
  isplitl [H14]; · iexact H14
  isplitl [Hx Hwq Hwo HK HV]
  · isplitl [Hx]; · iexact Hx
    isplitl [Hwq]; · iexact Hwq
    isplitl [Hwo]; · iexact Hwo
    isplitl [HK] <;> iassumption
  iexact H5

/-- What the device is given. -/
def given : sProp 𝕄 :=
  iprop(ins c arg0 arg1 arg2 arg3 arg4 (I.x c) (I.wq c) (I.wo c) (I.k c) (I.v c) ∗ tmp (F := F) c arg11 arg12 arg13
    ∗ (blank c 0 ∗ blank c 1) ∗ All (F := F) c arg14 (fun _ => True) ∗ All (F := F) c arg5 (fun _ => True) ∗ bar (F := F) c
    ∗ (before (F := F) c 0 ∗ before (F := F) c 1 ∗ before (F := F) c 2 ∗ before (F := F) c 3) ∗ Ow c (owedB c 0))

/-- What it gives back: the output in place, everything else as it was, the counters at zero. -/
def back : sProp 𝕄 :=
  iprop(ins c arg0 arg1 arg2 arg3 arg4 (I.x c) (I.wq c) (I.wo c) (I.k c) (I.v c) ∗ tmp (F := F) c arg11 arg12 arg13
    ∗ (blank c 0 ∗ blank c 1) ∗ All (F := F) c arg14 (fun _ => True)
    ∗ All c arg5 (outF (fun t => outT (last I c t) (I.wo c)) 2) ∗ semVal (barCell c) 0
    ∗ (after (F := F) c 0 ∗ after (F := F) c 1 ∗ after (F := F) c 2 ∗ after (F := F) c 3) ∗ Ow c 0)

theorem wp_body (b : Fin 4 → Dev nD) (p p' : Fin 4 → Fin 2 → Dev nD) (hb : ∀ s, b s = partner s c)
    (hp : ∀ s t, p s t = partner s c) (hp' : ∀ s t, p' s t = partner s c) :
    iprop(recs I K ∗ levAts L lv ∗ given I c arg0 arg1 arg2 arg3 arg4 arg5 arg11 arg12 arg13 arg14)
      ⊢ iprop((back I c arg0 arg1 arg2 arg3 arg4 arg5 arg11 arg12 arg13 arg14 -∗ Q ⟨⟩)
        -∗ WP c (bodyK arg0 arg1 arg2 arg3 arg4 arg5 accM staM sbM arg8h rbM arg9h rsM arg11 arg12 arg13 arg14
            cc0_scratch9 cc0_scratch10 cc0_scratch11 cc0_scratch12 b p p') Q) := by
  unfold given bar before bodyK
  iintro ⟨#HR, #Hlev, Hin, Htmp, ⟨Hb0, Hb1⟩, H14, H5, ⟨Hat, Hcr, ⟨Hd0, Hd1, Hd2, Hd3⟩, ⟨Hl0, Hl1, Hl2, Hl3⟩⟩,
    ⟨⟨⟨Ht00, Hi00⟩, ⟨Ht01, Hi01⟩⟩, ⟨⟨Ht10, Hi10⟩, ⟨Ht11, Hi11⟩⟩, ⟨⟨Ht20, Hi20⟩, ⟨Ht21, Hi21⟩⟩, ⟨⟨Ht30, Hi30⟩, ⟨Ht31, Hi31⟩⟩⟩, HO⟩ Hk
  iapply (wp_sig I K c Q 0 (b 0) (hb 0) 0 1 rfl rfl _) $$ [Hd0 Hl0 HO]
  · isplitr; · iexact HR
    isplitl [Hd0]; · iexact Hd0
    isplitl [Hl0] <;> iassumption
  iintro HO
  iapply (wp_sig I K c Q 1 (b 1) (hb 1) 1 2 rfl rfl _) $$ [Hd1 Hl1 HO]
  · isplitr; · iexact HR
    isplitl [Hd1]; · iexact Hd1
    isplitl [Hl1] <;> iassumption
  iintro HO
  iapply (wp_sig I K c Q 2 (b 2) (hb 2) 2 3 rfl rfl _) $$ [Hd2 Hl2 HO]
  · isplitr; · iexact HR
    isplitl [Hd2]; · iexact Hd2
    isplitl [Hl2] <;> iassumption
  iintro HO
  iapply (wp_sig I K c Q 3 (b 3) (hb 3) 3 4 rfl rfl _) $$ [Hd3 Hl3 HO]
  · isplitr; · iexact HR
    isplitl [Hd3]; · iexact Hd3
    isplitl [Hl3] <;> iassumption
  iintro HO
  rw [owedB_end]
  iapply (wp_start I c Q arg0 arg1 arg2 arg3 arg4 arg11 arg12 arg13 0 _) $$ [Hin Htmp Hb0]
  · isplitl [Hin]; · iexact Hin
    isplitl [Htmp] <;> iassumption
  iintro ⟨Hin, Htmp, HT0⟩
  iapply (wp_barrier I K c Q _) $$ [Hcr HO Hat]
  · isplitr; · iexact HR
    isplitr; · iexact Hlev
    isplitl [Hcr]; · iexact Hcr
    isplitl [HO] <;> iassumption
  unfold lands
  iintro ⟨HO, Hzb, ⟨Hl00, Hl01⟩, ⟨Hl10, Hl11⟩, ⟨Hl20, Hl21⟩, ⟨Hl30, Hl31⟩⟩
  iapply (wp_first I K c Q arg8h arg9h 0 0 (p 0 0) (p' 0 0) (hp 0 0) (hp' 0 0) 0 1 rfl rfl _) $$ [Ht00 Hl00 HT0 HO]
  · isplitr; · iexact HR
    isplitl [Ht00 Hl00]
    · unfold out; isplitl [Ht00] <;> iassumption
    isplitl [HT0] <;> iassumption
  iintro ⟨HF0, HO⟩
  iapply (wp_start I c Q arg0 arg1 arg2 arg3 arg4 arg11 arg12 arg13 1 _) $$ [Hin Htmp Hb1]
  · isplitl [Hin]; · iexact Hin
    isplitl [Htmp] <;> iassumption
  iintro ⟨Hin, Htmp, HT1⟩
  iapply (wp_first I K c Q arg8h arg9h 0 1 (p 0 1) (p' 0 1) (hp 0 1) (hp' 0 1) 1 2 rfl rfl _) $$ [Ht01 Hl01 HT1 HO]
  · isplitr; · iexact HR
    isplitl [Ht01 Hl01]
    · unfold out; isplitl [Ht01] <;> iassumption
    isplitl [HT1] <;> iassumption
  iintro ⟨HF1, HO⟩
  iapply (wp_round I K c Q arg8h arg9h 0 1 0 rfl (p 1 0) (p' 1 0) (hp 1 0) (hp' 1 0) 2 3 rfl rfl _) $$ [Hi00 Ht10 Hl10 HF0 HO]
  · isplitr; · iexact HR
    isplitr; · iexact Hlev
    isplitl [Hi00]; · iexact Hi00
    isplitl [Ht10 Hl10]
    · unfold out; isplitl [Ht10] <;> iassumption
    isplitl [HF0] <;> iassumption
  iintro ⟨HF0, HD00, HO⟩
  iapply (wp_round I K c Q arg8h arg9h 0 1 1 rfl (p 1 1) (p' 1 1) (hp 1 1) (hp' 1 1) 3 4 rfl rfl _) $$ [Hi01 Ht11 Hl11 HF1 HO]
  · isplitr; · iexact HR
    isplitr; · iexact Hlev
    isplitl [Hi01]; · iexact Hi01
    isplitl [Ht11 Hl11]
    · unfold out; isplitl [Ht11] <;> iassumption
    isplitl [HF1] <;> iassumption
  iintro ⟨HF1, HD01, HO⟩
  iapply (wp_round I K c Q arg8h arg9h 1 2 0 rfl (p 2 0) (p' 2 0) (hp 2 0) (hp' 2 0) 4 5 rfl rfl _) $$ [Hi10 Ht20 Hl20 HF0 HO]
  · isplitr; · iexact HR
    isplitr; · iexact Hlev
    isplitl [Hi10]; · iexact Hi10
    isplitl [Ht20 Hl20]
    · unfold out; isplitl [Ht20] <;> iassumption
    isplitl [HF0] <;> iassumption
  iintro ⟨HF0, HD10, HO⟩
  iapply (wp_round I K c Q arg8h arg9h 1 2 1 rfl (p 2 1) (p' 2 1) (hp 2 1) (hp' 2 1) 5 6 rfl rfl _) $$ [Hi11 Ht21 Hl21 HF1 HO]
  · isplitr; · iexact HR
    isplitr; · iexact Hlev
    isplitl [Hi11]; · iexact Hi11
    isplitl [Ht21 Hl21]
    · unfold out; isplitl [Ht21] <;> iassumption
    isplitl [HF1] <;> iassumption
  iintro ⟨HF1, HD11, HO⟩
  iapply (wp_round I K c Q arg8h arg9h 2 3 0 rfl (p 3 0) (p' 3 0) (hp 3 0) (hp' 3 0) 6 7 rfl rfl _) $$ [Hi20 Ht30 Hl30 HF0 HO]
  · isplitr; · iexact HR
    isplitr; · iexact Hlev
    isplitl [Hi20]; · iexact Hi20
    isplitl [Ht30 Hl30]
    · unfold out; isplitl [Ht30] <;> iassumption
    isplitl [HF0] <;> iassumption
  iintro ⟨HF0, HD20, HO⟩
  iapply (wp_round I K c Q arg8h arg9h 2 3 1 rfl (p 3 1) (p' 3 1) (hp 3 1) (hp' 3 1) 7 8 rfl rfl _) $$ [Hi21 Ht31 Hl31 HF1 HO]
  · isplitr; · iexact HR
    isplitr; · iexact Hlev
    isplitl [Hi21]; · iexact Hi21
    isplitl [Ht31 Hl31]
    · unfold out; isplitl [Ht31] <;> iassumption
    isplitl [HF1] <;> iassumption
  iintro ⟨HF1, HD21, HO⟩
  iapply (wp_last I K c Q arg8h arg9h 3 0 8 (by decide) _) $$ [Hi30 HF0 HO]
  · isplitr; · iexact HR
    isplitr; · iexact Hlev
    isplitl [Hi30]; · iexact Hi30
    isplitl [HF0] <;> iassumption
  iintro ⟨HT0, HD30, HO⟩
  ihave H5 := (Held.mono (ψ := outF (fun t => outT (last I c t) (I.wo c)) 0) fun f _ => fun _ h => absurd h (Nat.not_lt_zero _)) $$ H5
  iapply (wp_end I c Q arg0 arg1 arg2 arg3 arg4 arg5 arg14 0 0 1 rfl rfl _) $$ [HT0 H14 Hin H5]
  · isplitl [HT0]; · iexact HT0
    isplitl [H14]; · iexact H14
    isplitl [Hin] <;> iassumption
  iintro ⟨Hb0, H14, Hin, H5⟩
  iapply (wp_last I K c Q arg8h arg9h 3 1 8 (by decide) _) $$ [Hi31 HF1 HO]
  · isplitr; · iexact HR
    isplitr; · iexact Hlev
    isplitl [Hi31]; · iexact Hi31
    isplitl [HF1] <;> iassumption
  iintro ⟨HT1, HD31, HO⟩
  iapply (wp_end I c Q arg0 arg1 arg2 arg3 arg4 arg5 arg14 1 1 2 rfl rfl _) $$ [HT1 H14 Hin H5]
  · isplitl [HT1]; · iexact HT1
    isplitl [H14]; · iexact H14
    isplitl [Hin] <;> iassumption
  iintro ⟨Hb1, H14, Hin, H5⟩
  unfold WP
  rw [wp_ret]
  imodintro
  iapply Hk
  unfold back after
  rw [owedX_end c 8 (le_refl 8)]
  isplitl [Hin]; · iexact Hin
  isplitl [Htmp]; · iexact Htmp
  isplitl [Hb0 Hb1]
  · isplitl [Hb0] <;> iassumption
  isplitl [H14]; · iexact H14
  isplitl [H5]; · iexact H5
  isplitl [Hzb]; · iexact Hzb
  isplitr [HO]
  · isplitl [HD00 HD01]
    · isplitl [HD00] <;> iassumption
    isplitl [HD10 HD11]
    · isplitl [HD10] <;> iassumption
    isplitl [HD20 HD21]
    · isplitl [HD20] <;> iassumption
    isplitl [HD30] <;> iassumption
  iexact HO

end Whole

end Cert.KernelIdeal.Proto

end
-- ==== Proof.KernelIdeal.Ghost.lean ====
/-
  The launch's set-up: the cells and their tokens are minted, the invariants allocated, and each device is dealt its
  positions, the tokens of the duties it pays, and the credit of what the others owe it.
-/
module

public import proofs.«01_k».proof.Proof.KernelIdeal.Body
public import Idealize.ShloMosaic.Lib.Pipeline.Launch
public import Idealize.ShloMosaic.Lib.Pipeline.Kit

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F)

/-! ## The cells, grouped -/

/-- The transfer cells' indices; a stage and a tile. -/
abbrev XI : Type := Fin 4 × Fin 4 × Fin 2
abbrev ST : Type := Fin 4 × Fin 2

/-- The four cells of a stage and a tile. -/
def quad (Φ : CI → sProp (MT nD τ sig Unit (Elt F) ℕ UU ℕ)) (p : ST) : sProp 𝕄 :=
  iprop(Φ (some (0, p)) ∗ Φ (some (1, p)) ∗ Φ (some (2, p)) ∗ Φ (some (3, p)))

theorem bigSep_XI (Φ : CI → sProp (MT nD τ sig Unit (Elt F) ℕ UU ℕ)) :
    bigSep Finset.univ (fun x : XI => Φ (some x)) = bigSep Finset.univ fun p : ST => quad Φ p := by
  rw [bigSep_univ_prod, bigSep_univ_comm]
  exact bigSep_congr fun p _ => bigSep_four _

theorem bigSep_CI (Φ : CI → sProp (MT nD τ sig Unit (Elt F) ℕ UU ℕ)) :
    bigSep Finset.univ Φ = iprop(Φ none ∗ bigSep Finset.univ fun p : ST => quad Φ p) := by
  rw [← bigSep_XI, bigSep_univ_equiv (Equiv.optionEquivSumPUnit.{0, 0} XI).symm Φ, bigSep_univ_sum]
  refine Eq.trans ?_ (BI.Entails.antisymm BI.sep_comm BI.sep_comm)
  refine congrArg₂ _ rfl ?_
  rw [bigSep_univ_of_subsingleton PUnit.unit]
  rfl

/-- Stage by stage and tile by tile. -/
theorem bigSep_ST (Φ : ST → sProp (MT nD τ sig Unit (Elt F) ℕ UU ℕ)) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_four, bigSep_univ_two, bigSep_univ_two, bigSep_univ_two, bigSep_univ_two]

theorem kcell_inj {a b : Dev nD} {i j : CI} (h : kcell a i = kcell b j) : a = b ∧ i = j :=
  ⟨Fin.ext (congrArg (fun g : GSem nD τ sig => g.1.1.val) h), csem_inj (congrArg Prod.snd h)⟩

/-! ## What is minted -/

theorem kcell_injective : Function.Injective fun x : Dev nD × CI => kcell x.1 x.2 := fun a b h =>
  Prod.ext (kcell_inj h).1 (kcell_inj h).2

def cells : Finset (GSem nD τ sig) := Finset.univ.map ⟨fun x : Dev nD × CI => kcell x.1 x.2, kcell_injective⟩

/-- A token per cell and duty name. -/
def tokOf (x : Dev nD × CI × Fin 4) : GSem nD τ sig × ℕ × Fin 4 := (kcell x.1 x.2.1, 0, x.2.2)

theorem tokOf_injective : Function.Injective tokOf := fun a b h => by
  have h1 := kcell_inj (Prod.mk.inj h).1
  have h2 := (Prod.mk.inj (Prod.mk.inj h).2).2
  exact Prod.ext h1.1 (Prod.ext h1.2 h2)

def toksF : Finset (GSem nD τ sig × ℕ × Fin 4) := Finset.univ.map ⟨tokOf, tokOf_injective⟩

/-- The tokens of the duties of device `c`'s own cells. -/
def toks (c : Dev nD) : sProp 𝕄 :=
  iprop((bigSep Finset.univ fun d : Fin 4 => dutyTok ER (barCell c) 0 d)
    ∗ bigSep Finset.univ fun p : ST => quad (fun i => dutyTok ER (kcell c i) 0 0) p)

theorem toks_intro (c : Dev nD) :
    (bigSep Finset.univ fun x : CI × Fin 4 => dutyTok ER (kcell c x.1) 0 x.2 : sProp 𝕄) ⊢ toks c := by
  rw [bigSep_univ_prod, bigSep_CI]
  unfold toks
  refine sep_mono_right (bigSep_mono fun p _ => ?_)
  unfold quad
  exact sep_mono (bigSep_elim (Finset.mem_univ 0)) (sep_mono (bigSep_elim (Finset.mem_univ 0))
    (sep_mono (bigSep_elim (Finset.mem_univ 0)) (bigSep_elim (Finset.mem_univ 0))))

/-- What the launch element deals device `c`. -/
def G (c : Dev nD) : sProp 𝕄 :=
  iprop((bigSep Finset.univ fun i : CI => roundState ER (Rd I) (kcell c i) 0)
    ∗ (bigSep Finset.univ fun i : CI => iprop(atPos ER (kcell c i) 0 ∅ 0 ∗ reached ER (kcell c i) 0)) ∗ toks c)

theorem fund : BI.own (ER (initOf cells toksF)) ⊢ (|==> bigSep Finset.univ (G I) : sProp 𝕄) := by
  have hX (Φ : GSem nD τ sig → sProp 𝕄) :
      bigSep cells Φ = bigSep Finset.univ fun c : Dev nD => bigSep Finset.univ fun i : CI => Φ (kcell c i) := by
    unfold cells
    rw [bigSep_map, bigSep_univ_prod]
    rfl
  have hT : bigSep toksF (fun x => (dutyTok ER x.1 x.2.1 x.2.2 : sProp 𝕄)) ⊢ bigSep Finset.univ fun c : Dev nD => toks c := by
    unfold toksF
    rw [bigSep_map, bigSep_univ_prod]
    exact bigSep_mono fun c _ => toks_intro c
  iintro HX
  imod (Rounds.fund ER (Rd I) cells toksF) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := hT $$ Htok
  unfold G
  simp only [bigSep_sep']
  isplitl [Hst]; · iexact Hst
  isplitl [Hat Hr]
  · isplitl [Hat] <;> iassumption
  iexact Htok

/-! ## The invariants -/

/-- The kernel's own semaphores. -/
def osem (x : XI) : SemLoc sig := .dma (xsem x)

theorem ownSems0_eq (c : Dev nD) :
    (Pipeline.ownSems0 (Ix := Unit) (Name := ℕ) (U := UU) (Lvl := ℕ) (Val := Elt F) (τ := τ) osem c : sProp 𝕄)
      = bigSep Finset.univ fun p : ST => quad (fun i => semVal (kcell c i) 0) p :=
  bigSep_XI fun i => semVal (kcell c i) 0

theorem unscopedSems0_eq (c : Dev nD) : (unscopedSems0 c : sProp 𝕄) = semVal (barCell c) 0 := by
  unfold unscopedSems0
  rw [bigSep_eq_bigSepL_of_eq [SemLoc.reg barSem] (by decide) (by decide)]
  rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun i : CI => semVal (kcell c i) 0 : sProp 𝕄) := by
  rw [ownSems0_eq, unscopedSems0_eq, bigSep_CI]
  exact BI.Entails.antisymm BI.sep_comm BI.sep_comm

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : CI => iprop(∃ κ : ℕ, cellInv ER (Rd I) κ (kcell c i)))
          ∗ (bigSep Finset.univ fun i : CI => iprop(atPos ER (kcell c i) 0 ∅ 0 ∗ reached ER (kcell c i) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : CI => semVal (kcell c i) 0) ∗ bigSep Finset.univ fun i : CI => roundState ER (Rd I) (kcell c i) 0)
      ⊢ (|={Set.univ}=> bigSep Finset.univ fun i : CI => iprop(∃ κ : ℕ, cellInv ER (Rd I) κ (kcell c i)) : sProp 𝕄) from by
        rw [← bigSep_sep']
        exact (bigSep_mono fun i _ => (Rounds.body_intro ER (Rd I) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The tokens of the duties that device `c` pays. -/
def payToks (c : Dev nD) : sProp 𝕄 :=
  iprop((bigSep Finset.univ fun d : Fin 4 => dutyTok ER (barCell (partner d c)) 0 d)
    ∗ bigSep Finset.univ fun p : ST => tok c p.1 p.2)

theorem tok_around (p : ST) :
    (bigSep Finset.univ fun c : Dev nD => quad (fun i => dutyTok ER (kcell c i) 0 0) p : sProp 𝕄)
      ⊢ bigSep Finset.univ fun c : Dev nD => tok c p.1 p.2 := by
  unfold quad tok
  rw [bigSep_sep', bigSep_sep', bigSep_sep', bigSep_sep', bigSep_sep', bigSep_sep',
    bigSep_univ_equiv (swap p.1) (fun c : Dev nD => (dutyTok ER (kcell c (some (1, p))) 0 0 : sProp 𝕄)),
    bigSep_univ_equiv (swap p.1) (fun c : Dev nD => (dutyTok ER (kcell c (some (3, p))) 0 0 : sProp 𝕄))]
  iintro ⟨H0, H1, H2, H3⟩
  isplitl [H2]; · iexact H2
  isplitl [H3]; · iexact H3
  isplitl [H0]; · iexact H0
  iexact H1

theorem toks_around : (bigSep Finset.univ fun c : Dev nD => (toks c : sProp 𝕄)) ⊢ bigSep Finset.univ fun c : Dev nD => payToks c := by
  unfold toks payToks
  rw [bigSep_sep', bigSep_sep']
  refine BI.sep_mono ?_ ?_
  · rw [bigSep_univ_comm, bigSep_univ_comm fun (c : Dev nD) (d : Fin 4) => (dutyTok ER (barCell (partner d c)) 0 d : sProp 𝕄)]
    exact bigSep_mono fun d _ => Entails.of_eq (bigSep_univ_equiv (swap d) fun c : Dev nD => (dutyTok ER (barCell c) 0 d : sProp 𝕄))
  · rw [bigSep_univ_comm, bigSep_univ_comm fun (c : Dev nD) (p : ST) => (tok c p.1 p.2 : sProp 𝕄)]
    exact bigSep_mono fun p _ => tok_around p

/-- What stays with device `c`. -/
def linear (c : Dev nD) : sProp 𝕄 := iprop((bigSep Finset.univ fun i : CI => atPos ER (kcell c i) 0 ∅ 0) ∗ payToks c)

/-- What the global step makes of the launch element. -/
def G' (c : Dev nD) : sProp 𝕄 := iprop(∃ K, recs I K ∗ linear c)

theorem regroup :
    (bigSep Finset.univ fun c : Dev nD => iprop((bigSep Finset.univ fun i : CI => iprop(∃ κ : ℕ, cellInv ER (Rd I) κ (kcell c i)))
          ∗ (bigSep Finset.univ fun i : CI => iprop(atPos ER (kcell c i) 0 ∅ 0 ∗ reached ER (kcell c i) 0)) ∗ toks c) : sProp 𝕄)
      ⊢ bigSep Finset.univ (G' I) := by
  rw [bigSep_sep', bigSep_sep', ← bigSep_univ_prod (fun x : Dev nD × CI => iprop(∃ κ : ℕ, cellInv ER (Rd I) κ (kcell x.1 x.2))),
    bigSep_congr (s := Finset.univ) (fun (c : Dev nD) _ => bigSep_sep' Finset.univ (fun i : CI => (atPos ER (kcell c i) 0 ∅ 0 : sProp 𝕄)) (fun i => reached ER (kcell c i) 0)),
    bigSep_sep', ← bigSep_univ_prod (fun x : Dev nD × CI => (reached ER (kcell x.1 x.2) 0 : sProp 𝕄))]
  iintro ⟨HI, ⟨Hat, #HR⟩, Htok⟩
  ihave HK := (BI.bigSep_exists_pi Finset.univ (fun (x : Dev nD × CI) (κ : ℕ) => (cellInv ER (Rd I) κ (kcell x.1 x.2) : sProp 𝕄))) $$ HI
  icases HK with ⟨%K, #HI⟩
  ihave Htk := (toks_around (F := F)) $$ Htok
  iapply (BI.bigSep_with_persistent (R := recs I K) (S := Finset.univ) (Φ := linear) (Ψ := G' I) fun c _ => show iprop(recs I K ∗ linear c) ⊢ G' I c from by
    unfold G'
    iintro H
    iexists K
    iexact H)
  isplitr
  · unfold recs
    isplitl; · iexact HI
    iexact HR
  · unfold linear
    rw [bigSep_sep']
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

/-- What device `c` owes at launch. -/
def O₀ (c : Dev nD) : CellTallies nD τ sig Unit := owedB c 0

/-- What the devices owe a cell together. -/
def due : CI → ℕ
  | none => 4
  | some (1, _) => NO
  | some (3, _) => NS
  | _ => 0

theorem due_zero (x : ST) : due (some (0, x)) = 0 := rfl
theorem due_one (x : ST) : due (some (1, x)) = NO := rfl
theorem due_two (x : ST) : due (some (2, x)) = 0 := rfl
theorem due_three (x : ST) : due (some (3, x)) = NS := rfl

theorem tally_sum (s : Fin 4) (c : Dev nD) (i j : CI) (n : ℕ) :
    ∑ d : Dev nD, (tallyAt (kcell (partner s d) j) () n : CellTallies nD τ sig Unit) (kcell c i) () = if i = j then n else 0 := by
  rw [show (∑ d : Dev nD, (tallyAt (kcell (partner s d) j) () n : CellTallies nD τ sig Unit) (kcell c i) ())
      = ∑ d : Dev nD, (tallyAt (kcell d j) () n : CellTallies nD τ sig Unit) (kcell c i) () from
    Equiv.sum_comp (swap s) fun d => (tallyAt (kcell d j) () n : CellTallies nD τ sig Unit) (kcell c i) ()]
  rw [Finset.sum_eq_single c]
  · rw [tallyAt_apply]
    by_cases h : i = j
    · rw [if_pos h, if_pos ⟨by rw [h], rfl⟩]
    · rw [if_neg h, if_neg fun h' => h (kcell_inj h'.1).2]
  · intro d _ hd
    rw [tallyAt_apply, if_neg fun h' => hd (kcell_inj h'.1).1.symm]
  · exact fun h => absurd (Finset.mem_univ c) h

theorem sum_x (k : Fin 4) (i : CI) (n : ℕ) :
    (∑ x : ST, if i = some (k, x) then n else 0) = if (∃ x : ST, i = some (k, x)) then n else 0 := by
  by_cases h : ∃ x : ST, i = some (k, x)
  · obtain ⟨x, rfl⟩ := h
    rw [if_pos ⟨x, rfl⟩, Finset.sum_eq_single x]
    · rw [if_pos rfl]
    · exact fun y _ hy => if_neg fun e => hy (Prod.mk.inj (Option.some.inj e)).2.symm
    · exact fun h => absurd (Finset.mem_univ x) h
  · rw [if_neg h]
    exact Finset.sum_eq_zero fun x _ => if_neg fun e => h ⟨x, e⟩

theorem owed_sum (c : Dev nD) (i : CI) : ∑ d : Dev nD, O₀ d (kcell c i) () = due i := by
  have e : ∀ d : Dev nD, O₀ d (kcell c i) ()
      = (∑ x : ST, ((tallyAt (kcell (partner x.1 d) (some (1, x))) () NO : CellTallies nD τ sig Unit) (kcell c i) ()
          + (tallyAt (kcell (partner x.1 d) (some (3, x))) () NS : CellTallies nD τ sig Unit) (kcell c i) ()))
        + ∑ s : Fin 4, (tallyAt (kcell (partner s d) none) () 1 : CellTallies nD τ sig Unit) (kcell c i) () := fun d => by
    unfold O₀ owedB owedX
    rw [Pi.add_apply, Finsupp.add_apply, Finset.sum_apply, Finsupp.finset_sum_apply, Finset.sum_apply, Finsupp.finset_sum_apply]
    refine congrArg₂ _ (Finset.sum_congr rfl fun x _ => ?_) (Finset.sum_congr rfl fun s _ => ?_)
    · rw [if_pos (Nat.zero_le _)]
      unfold owedAt
      rw [Pi.add_apply, Finsupp.add_apply]
    · rw [if_pos (Nat.zero_le _)]
  have e1 : ∑ d : Dev nD, O₀ d (kcell c i) ()
      = (∑ x : ST, ((if i = some (1, x) then NO else 0) + (if i = some (3, x) then NS else 0))) + ∑ s : Fin 4, (if i = none then 1 else 0) := by
    rw [Finset.sum_congr rfl fun d _ => e d, Finset.sum_add_distrib]
    refine congrArg₂ _ ?_ ?_
    · rw [Finset.sum_comm]
      refine Finset.sum_congr rfl fun (x : ST) _ => ?_
      rw [Finset.sum_add_distrib]
      exact congrArg₂ _ (tally_sum x.1 c i (some (1, x)) NO) (tally_sum x.1 c i (some (3, x)) NS)
    · rw [Finset.sum_comm]
      exact Finset.sum_congr rfl fun s _ => tally_sum s c i none 1
  rw [e1, Finset.sum_add_distrib, sum_x, sum_x]
  rcases i with _ | ⟨k, x⟩
  · have h0 : ∀ k', ¬ ∃ x : ST, (none : CI) = some (k', x) := fun k' ⟨x, h⟩ => by cases h
    rw [if_neg (h0 1), if_neg (h0 3), if_pos rfl, Finset.sum_const, Finset.card_univ, Fintype.card_fin]
    rfl
  · have hk : ∀ k', (∃ y : ST, (some (k, x) : CI) = some (k', y)) ↔ k = k' := fun k' =>
      ⟨fun ⟨y, h⟩ => (Prod.mk.inj (Option.some.inj h)).1, fun h => ⟨x, by rw [h]⟩⟩
    simp only [hk, if_neg (show ¬ ((some (k, x) : CI) = none) from fun h => by cases h), Finset.sum_const_zero, Nat.add_zero]
    rcases (show ∀ k : Fin 4, k = 0 ∨ k = 1 ∨ k = 2 ∨ k = 3 by decide) k with rfl | rfl | rfl | rfl
    · rw [if_neg (show ¬ (0 : Fin 4) = 1 by decide), if_neg (show ¬ (0 : Fin 4) = 3 by decide), due_zero]
    · rw [if_pos rfl, if_neg (show ¬ (1 : Fin 4) = 3 by decide), due_one, Nat.add_zero]
    · rw [if_neg (show ¬ (2 : Fin 4) = 1 by decide), if_neg (show ¬ (2 : Fin 4) = 3 by decide), due_two]
    · rw [if_neg (show ¬ (3 : Fin 4) = 1 by decide), if_pos rfl, due_three, Nat.zero_add]

theorem launch_at (c : Dev nD) (i : CI) :
    tallyOn (kcell c i) (launchCredit (Pipeline.owing O₀) 0 (kcell c i)) = (tallyAt (kcell c i) () (due i) : CellTallies nD τ sig Unit) := by
  unfold tallyAt
  refine congrArg _ (Finsupp.ext fun u => ?_)
  cases u
  rw [Pipeline.launchCredit_owing, Finsupp.single_eq_same, owed_sum]

/-- The credit of device `c`. -/
def credit (c : Dev nD) : sProp 𝕄 :=
  iprop(cred (tallyAt (barCell c) () 4) ∗ bigSep Finset.univ fun p : ST => crs c p.1 p.2)

theorem creds (c : Dev nD) : (Pipeline.launchCred O₀ c : sProp 𝕄) ⊢ credit c := by
  have h : (Pipeline.launchCred O₀ c : sProp 𝕄) ⊢ bigSep Finset.univ fun i : CI => cred (tallyAt (kcell c i) () (due i)) := by
    unfold Pipeline.launchCred
    refine (bigSep_subset (Finset.subset_univ (Finset.univ.map ⟨csem, csem_inj⟩))).trans ?_
    rw [bigSep_map]
    exact bigSep_mono fun i _ => by rw [← launch_at]; exact BI.Entails.refl _
  refine h.trans ?_
  rw [bigSep_CI]
  unfold credit
  refine sep_mono_right (bigSep_mono fun p _ => ?_)
  show iprop(cred (tallyAt (kcell c (some (0, p))) () (due (some (0, p)))) ∗ cred (tallyAt (xcell c 1 p.1 p.2) () NO)
    ∗ cred (tallyAt (kcell c (some (2, p))) () (due (some (2, p)))) ∗ cred (tallyAt (xcell c 3 p.1 p.2) () NS)) ⊢ crs c p.1 p.2
  unfold crs
  iintro ⟨-, H1, -, H3⟩
  isplitl [H1]; · iexact H1
  iexact H3

end Cert.KernelIdeal.Proto

end
-- ==== Proof.KernelIdeal.Buffers.lean ====
/-
  The scratch buffers cut in the pieces that the body holds, and put together again.
-/
module

public import proofs.«01_k».proof.Proof.KernelIdeal.Ghost

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer of device `c`, whole, at any contents. -/
abbrev Any (F : FTy → Type) [FloatOps F] (c : Dev nD) (b : Ref sig .tc) : sProp (MT nD τ sig Unit (Elt F) ℕ UU ℕ) :=
  iprop(∃ f : Buf (Elt F) ((c : Thread nD τ).loc b), ((c : Thread nD τ).loc b) ↦{fullShare} f)

variable (c : Dev nD)

theorem any_all (b : Ref sig .tc) : (Any F c b : sProp 𝕄) ⊢ Held c (Memref.whole b) Finset.univ (fun _ => True) := by
  iintro ⟨%f, H⟩
  iapply (Held.intro (m := Memref.whole b) (φ := fun _ => True) f trivial)
  iexact H

theorem all_any (b : Ref sig .tc) (φ) : (Held c (Memref.whole b) Finset.univ φ : sProp 𝕄) ⊢ Any F c b := by
  unfold Held
  iintro ⟨%f, -, H⟩
  iexists f
  iexact H

/-! ## Which piece an element is in -/

theorem mem_acc (i : S2x2x64x512.Idx) (t : Fin 2) : i ∈ (rAcc t).set ↔ (i 0 : Fin 2) = t := by
  rw [Rect.mem_set_unit]
  constructor
  · intro h
    have h0 := h 0
    have h1 : t.val ≤ (i 0).val ∧ (i 0).val < t.val + 1 := h0
    exact Fin.ext (by omega)
  · rintro rfl a
    have h1 := (i 1).isLt
    have h2 := (i 2).isLt
    have h3 := (i 3).isLt
    match a with
    | 0 => exact ⟨le_refl _, Nat.lt_succ_self _⟩
    | 1 => exact ⟨Nat.zero_le _, by rw [show (![(i 0 : Fin 2).val, 0, 0, 0] : Fin 4 → ℕ) 1 = 0 from rfl, Nat.zero_add]; exact h1⟩
    | 2 => exact ⟨Nat.zero_le _, by rw [show (![(i 0 : Fin 2).val, 0, 0, 0] : Fin 4 → ℕ) 2 = 0 from rfl, Nat.zero_add]; exact h2⟩
    | 3 => exact ⟨Nat.zero_le _, by rw [show (![(i 0 : Fin 2).val, 0, 0, 0] : Fin 4 → ℕ) 3 = 0 from rfl, Nat.zero_add]; exact h3⟩

theorem mem_rb (i : S8x2x64x512.Idx) (n : Fin 8) : i ∈ (rRb n).set ↔ (i 0 : Fin 8) = n := by
  rw [Rect.mem_set_unit]
  constructor
  · intro h
    have h1 : n.val ≤ (i 0).val ∧ (i 0).val < n.val + 1 := h 0
    exact Fin.ext (by omega)
  · rintro rfl a
    have h1 := (i 1).isLt
    have h2 := (i 2).isLt
    have h3 := (i 3).isLt
    match a with
    | 0 => exact ⟨le_refl _, Nat.lt_succ_self _⟩
    | 1 => exact ⟨Nat.zero_le _, by rw [show (![(i 0 : Fin 8).val, 0, 0, 0] : Fin 4 → ℕ) 1 = 0 from rfl, Nat.zero_add]; exact h1⟩
    | 2 => exact ⟨Nat.zero_le _, by rw [show (![(i 0 : Fin 8).val, 0, 0, 0] : Fin 4 → ℕ) 2 = 0 from rfl, Nat.zero_add]; exact h2⟩
    | 3 => exact ⟨Nat.zero_le _, by rw [show (![(i 0 : Fin 8).val, 0, 0, 0] : Fin 4 → ℕ) 3 = 0 from rfl, Nat.zero_add]; exact h3⟩

theorem mem_stats (i : S2x2x2x1x512.Idx) (t : Fin 2) : i ∈ (rStats t).set ↔ (i 0 : Fin 2) = t := by
  rw [Rect.mem_set_unit]
  constructor
  · intro h
    have h1 : t.val ≤ (i 0).val ∧ (i 0).val < t.val + 1 := h 0
    exact Fin.ext (by omega)
  · rintro rfl a
    have h1 := (i 1).isLt
    have h2 := (i 2).isLt
    have h3 := (i 3).isLt
    have h4 := (i 4).isLt
    match a with
    | 0 => exact ⟨le_refl _, Nat.lt_succ_self _⟩
    | 1 => exact ⟨Nat.zero_le _, by rw [show (![(i 0 : Fin 2).val, 0, 0, 0, 0] : Fin 5 → ℕ) 1 = 0 from rfl, Nat.zero_add]; exact h1⟩
    | 2 => exact ⟨Nat.zero_le _, by rw [show (![(i 0 : Fin 2).val, 0, 0, 0, 0] : Fin 5 → ℕ) 2 = 0 from rfl, Nat.zero_add]; exact h2⟩
    | 3 => exact ⟨Nat.zero_le _, by rw [show (![(i 0 : Fin 2).val, 0, 0, 0, 0] : Fin 5 → ℕ) 3 = 0 from rfl, Nat.zero_add]; exact h3⟩
    | 4 => exact ⟨Nat.zero_le _, by rw [show (![(i 0 : Fin 2).val, 0, 0, 0, 0] : Fin 5 → ℕ) 4 = 0 from rfl, Nat.zero_add]; exact h4⟩

theorem mem_rstats (i : S8x2x2x1x512.Idx) (n : Fin 8) : i ∈ (rRstats n).set ↔ (i 0 : Fin 8) = n := by
  rw [Rect.mem_set_unit]
  constructor
  · intro h
    have h1 : n.val ≤ (i 0).val ∧ (i 0).val < n.val + 1 := h 0
    exact Fin.ext (by omega)
  · rintro rfl a
    have h1 := (i 1).isLt
    have h2 := (i 2).isLt
    have h3 := (i 3).isLt
    have h4 := (i 4).isLt
    match a with
    | 0 => exact ⟨le_refl _, Nat.lt_succ_self _⟩
    | 1 => exact ⟨Nat.zero_le _, by rw [show (![(i 0 : Fin 8).val, 0, 0, 0, 0] : Fin 5 → ℕ) 1 = 0 from rfl, Nat.zero_add]; exact h1⟩
    | 2 => exact ⟨Nat.zero_le _, by rw [show (![(i 0 : Fin 8).val, 0, 0, 0, 0] : Fin 5 → ℕ) 2 = 0 from rfl, Nat.zero_add]; exact h2⟩
    | 3 => exact ⟨Nat.zero_le _, by rw [show (![(i 0 : Fin 8).val, 0, 0, 0, 0] : Fin 5 → ℕ) 3 = 0 from rfl, Nat.zero_add]; exact h3⟩
    | 4 => exact ⟨Nat.zero_le _, by rw [show (![(i 0 : Fin 8).val, 0, 0, 0, 0] : Fin 5 → ℕ) 4 = 0 from rfl, Nat.zero_add]; exact h4⟩

/-- The landing slots, counted by stage and tile. -/
def slots : ST ≃ Fin 8 where
  toFun p := slot p.1 p.2
  invFun n := (⟨n.val / 2, by omega⟩, ⟨n.val % 2, by omega⟩)
  left_inv := by decide
  right_inv := by decide

/-! ## Cutting and joining -/

theorem cut_acc : (Any F c cc0_scratch0 : sProp 𝕄) ⊢ iprop(accS c 0 (fun _ => True) ∗ accS c 1 (fun _ => True)) :=
  (split cc0_scratch0 rAcc (fun i => i 0) mem_acc c).trans (Entails.of_eq (bigSep_univ_two _))
theorem cut_sta : (Any F c cc0_scratch1 : sProp 𝕄) ⊢ iprop(staS c 0 (fun _ => True) ∗ staS c 1 (fun _ => True)) :=
  (split cc0_scratch1 rStats (fun i => i 0) mem_stats c).trans (Entails.of_eq (bigSep_univ_two _))
theorem cut_sb : (Any F c cc0_scratch2 : sProp 𝕄) ⊢ iprop(sbS c 0 (fun _ => True) ∗ sbS c 1 (fun _ => True)) :=
  (split cc0_scratch2 rAcc (fun i => i 0) mem_acc c).trans (Entails.of_eq (bigSep_univ_two _))
theorem cut_rb : (Any F c cc0_scratch3 : sProp 𝕄) ⊢ bigSep Finset.univ fun p : ST => rbS c p.1 p.2 (fun _ => True) :=
  (split cc0_scratch3 rRb (fun i => i 0) mem_rb c).trans (Entails.of_eq (bigSep_univ_equiv slots _))
theorem cut_rs : (Any F c cc0_scratch4 : sProp 𝕄) ⊢ bigSep Finset.univ fun p : ST => rsS c p.1 p.2 (fun _ => True) :=
  (split cc0_scratch4 rRstats (fun i => i 0) mem_rstats c).trans (Entails.of_eq (bigSep_univ_equiv slots _))

theorem join_acc : iprop(accS (F := F) c 0 (fun _ => True) ∗ accS (F := F) c 1 (fun _ => True)) ⊢ (Any F c cc0_scratch0 : sProp 𝕄) :=
  (Entails.of_eq (bigSep_univ_two (fun t => accS (F := F) c t (fun _ => True))).symm).trans
    (join cc0_scratch0 rAcc (fun i => i 0) mem_acc c (fun _ _ => True) default)
theorem join_sta : iprop(staS (F := F) c 0 (fun _ => True) ∗ staS (F := F) c 1 (fun _ => True)) ⊢ (Any F c cc0_scratch1 : sProp 𝕄) :=
  (Entails.of_eq (bigSep_univ_two (fun t => staS (F := F) c t (fun _ => True))).symm).trans
    (join cc0_scratch1 rStats (fun i => i 0) mem_stats c (fun _ _ => True) default)
theorem join_sb : iprop(sbS (F := F) c 0 (fun _ => True) ∗ sbS (F := F) c 1 (fun _ => True)) ⊢ (Any F c cc0_scratch2 : sProp 𝕄) :=
  (Entails.of_eq (bigSep_univ_two (fun t => sbS (F := F) c t (fun _ => True))).symm).trans
    (join cc0_scratch2 rAcc (fun i => i 0) mem_acc c (fun _ _ => True) default)
theorem join_rb : (bigSep Finset.univ fun p : ST => rbS (F := F) c p.1 p.2 (fun _ => True)) ⊢ (Any F c cc0_scratch3 : sProp 𝕄) :=
  (Entails.of_eq (bigSep_univ_equiv slots fun n => Held (Val := Elt F) c rbM (rbM.access (rRb n)).set (fun _ => True)).symm).trans
    (join cc0_scratch3 rRb (fun i => i 0) mem_rb c (fun _ _ => True) default)
theorem join_rs : (bigSep Finset.univ fun p : ST => rsS (F := F) c p.1 p.2 (fun _ => True)) ⊢ (Any F c cc0_scratch4 : sProp 𝕄) :=
  (Entails.of_eq (bigSep_univ_equiv slots fun n => Held (Val := Elt F) c rsM (rsM.access (rRstats n)).set (fun _ => True)).symm).trans
    (join cc0_scratch4 rRstats (fun i => i 0) mem_rstats c (fun _ _ => True) default)

/-- The landing slots of all stages. -/
theorem lands_eq : (bigSep Finset.univ fun p : ST => land (F := F) c p.1 p.2 : sProp 𝕄)
    = iprop(lands c 0 ∗ lands c 1 ∗ lands c 2 ∗ lands c 3) := by
  rw [bigSep_ST]
  rfl

/-- The scratch buffers, each whole at any contents. -/
def scr : sProp 𝕄 :=
  iprop(Any F c cc0_scratch0 ∗ Any F c cc0_scratch1 ∗ Any F c cc0_scratch2 ∗ Any F c cc0_scratch3 ∗ Any F c cc0_scratch4
    ∗ Any F c cc0_scratch5 ∗ Any F c cc0_scratch6 ∗ Any F c cc0_scratch7 ∗ Any F c cc0_scratch8)

/-- The same in the pieces that the body holds. -/
def pieces : sProp 𝕄 :=
  iprop(tmp (F := F) c (Memref.whole cc0_scratch5) (Memref.whole cc0_scratch6) (Memref.whole cc0_scratch7)
    ∗ (blank c 0 ∗ blank c 1) ∗ All (F := F) c (Memref.whole cc0_scratch8) (fun _ => True)
    ∗ bigSep Finset.univ fun p : ST => land (F := F) c p.1 p.2)

theorem scr_pieces : (scr c : sProp 𝕄) ⊢ pieces c := by
  unfold scr pieces tmp blank land
  rw [bigSep_sep']
  iintro ⟨H0, H1, H2, H3, H4, H5, H6, H7, H8⟩
  ihave H0 := (cut_acc (F := F) c) $$ H0
  ihave H1 := (cut_sta (F := F) c) $$ H1
  ihave H2 := (cut_sb (F := F) c) $$ H2
  icases H0 with ⟨H00, H01⟩
  icases H1 with ⟨H10, H11⟩
  icases H2 with ⟨H20, H21⟩
  isplitl [H5 H6 H7]
  · isplitl [H5]; · iapply (any_all (F := F) c cc0_scratch5); iexact H5
    isplitl [H6]; · iapply (any_all (F := F) c cc0_scratch6); iexact H6
    iapply (any_all (F := F) c cc0_scratch7); iexact H7
  isplitl [H00 H01 H10 H11 H20 H21]
  · isplitl [H00 H10 H20]
    · isplitl [H00]; · iexact H00
      isplitl [H10] <;> iassumption
    · isplitl [H01]; · iexact H01
      isplitl [H11] <;> iassumption
  isplitl [H8]
  · iapply (any_all (F := F) c cc0_scratch8); iexact H8
  isplitl [H4]
  · iapply (cut_rs (F := F) c); iexact H4
  iapply (cut_rb (F := F) c); iexact H3

theorem pieces_scr : (pieces c : sProp 𝕄) ⊢ scr c := by
  unfold scr pieces tmp blank land
  rw [bigSep_sep']
  iintro ⟨⟨H5, H6, H7⟩, ⟨⟨H00, H10, H20⟩, ⟨H01, H11, H21⟩⟩, H8, H4, H3⟩
  isplitl [H00 H01]
  · iapply (join_acc (F := F) c)
    isplitl [H00] <;> iassumption
  isplitl [H10 H11]
  · iapply (join_sta (F := F) c)
    isplitl [H10] <;> iassumption
  isplitl [H20 H21]
  · iapply (join_sb (F := F) c)
    isplitl [H20] <;> iassumption
  isplitl [H3]; · iapply (join_rb (F := F) c); iexact H3
  isplitl [H4]; · iapply (join_rs (F := F) c); iexact H4
  isplitl [H5]; · iapply (all_any (F := F) c cc0_scratch5 fun _ => True); iexact H5
  isplitl [H6]; · iapply (all_any (F := F) c cc0_scratch6 fun _ => True); iexact H6
  isplitl [H7]; · iapply (all_any (F := F) c cc0_scratch7 fun _ => True); iexact H7
  iapply (all_any (F := F) c cc0_scratch8 fun _ => True); iexact H8

end Cert.KernelIdeal.Proto

end
-- ==== Proof.KernelIdeal.Tie.lean ====
/-
  The printed body is the sequence of phases of `Phases.lean`.
-/
module

public import proofs.«01_k».proof.Proof.KernelIdeal.Phases

@[expose] public section

noncomputable section

namespace Cert.KernelIdeal.Phase

open Idealize.ShloMosaic Idealize.SL.Sem

variable {F : FTy → Type} [FloatOps F] [Facts]

open Facts₀ Facts

/-- Device `n` where the word is in range. -/
abbrev dv (n : ℕ) (h : n < nD) : Dev nD := ⟨n, h⟩

set_option maxRecDepth 65536 in
theorem body_eq (arg0 : Memref sig .tc .vmem S2x128x512 .f32) (harg0 : arg0.IsWhole)
    (arg1 : Memref sig .tc .vmem S512x512 .f32) (harg1 : arg1.IsWhole)
    (arg2 : Memref sig .tc .vmem S512x512 .f32) (harg2 : arg2.IsWhole)
    (arg3 : Memref sig .tc .vmem S2x128x2x64 .f32) (harg3 : arg3.IsWhole)
    (arg4 : Memref sig .tc .vmem S2x128x2x64 .f32) (harg4 : arg4.IsWhole)
    (arg5 : Memref sig .tc .vmem S2x128x512 .f32) (harg5 : arg5.IsWhole)
    (arg6 : Memref sig .tc .vmem S2x2x64x512 .f32) (harg6 : arg6.IsWhole)
    (arg7 : Memref sig .tc .vmem S2x2x2x1x512 .f32) (harg7 : arg7.IsWhole)
    (arg8 : Memref sig .tc .vmem S2x2x64x512 .bf16) (harg8 : arg8.IsWhole)
    (arg9 : Memref sig .tc .vmem S8x2x64x512 .bf16) (harg9 : arg9.IsWhole)
    (arg10 : Memref sig .tc .vmem S8x2x2x1x512 .f32) (harg10 : arg10.IsWhole)
    (arg11 : Memref sig .tc .vmem S2x2x128x64 .f32) (harg11 : arg11.IsWhole)
    (arg12 : Memref sig .tc .vmem S2x2x128x64 .f32) (harg12 : arg12.IsWhole)
    (arg13 : Memref sig .tc .vmem S2x2x512x64 .f32) (harg13 : arg13.IsWhole)
    (arg14 : Memref sig .tc .vmem S512x128 .f32) (harg14 : arg14.IsWhole)
    (arg15 arg16 arg17 arg18 : DmaSems sig S4x2) :
    cc0_body (F := F) arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 arg16 arg17 arg18
    = .op .deviceId fun d0 =>
      bodyK arg0 arg1 arg2 arg3 arg4 arg5 arg6 arg7 arg8 harg8 arg9 harg9 arg10 arg11 arg12 arg13 arg14 arg15 arg16 arg17
        arg18
        ![dv (k0_dev1 d0) (k0_dev1_lt d0), dv (k0_dev2 d0) (k0_dev2_lt d0), dv (k0_dev3 d0) (k0_dev3_lt d0),
          dv (k0_dev4 d0) (k0_dev4_lt d0)]
        ![![dv (k0_dev5 d0) (k0_dev5_lt d0), dv (k0_dev7 d0) (k0_dev7_lt d0)],
          ![dv (k0_dev9 d0) (k0_dev9_lt d0), dv (k0_dev11 d0) (k0_dev11_lt d0)],
          ![dv (k0_dev13 d0) (k0_dev13_lt d0), dv (k0_dev15 d0) (k0_dev15_lt d0)],
          ![dv (k0_dev17 d0) (k0_dev17_lt d0), dv (k0_dev19 d0) (k0_dev19_lt d0)]]
        ![![dv (k0_dev6 d0) (k0_dev6_lt d0), dv (k0_dev8 d0) (k0_dev8_lt d0)],
          ![dv (k0_dev10 d0) (k0_dev10_lt d0), dv (k0_dev12 d0) (k0_dev12_lt d0)],
          ![dv (k0_dev14 d0) (k0_dev14_lt d0), dv (k0_dev16 d0) (k0_dev16_lt d0)],
          ![dv (k0_dev18 d0) (k0_dev18_lt d0), dv (k0_dev20 d0) (k0_dev20_lt d0)]] := by
  rw [Gen.cc0_body_eq_skeleton]
  rfl

end Cert.KernelIdeal.Phase

end
-- ==== Proof.KernelIdeal.Run.lean ====
/-
  The run of the whole program: from any memory with counters at zero it ends, every device's result is `outAll` of its
  two tiles' projections, its arguments are unchanged, and all counters are zero again.
-/
module

public import proofs.«01_k».proof.Proof.KernelIdeal.Buffers
public import proofs.«01_k».proof.Proof.KernelIdeal.Tie
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Proto

open Cert.KernelIdeal.Phase Cert.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ UU ℕ

/-! ## The addressed devices -/

theorem dev_eq (n : Dev nD → ℕ) (h : ∀ d, n d < nD) (s : Fin 4) (e : ∀ d, n d = (partner s d).val) (c : Dev nD) :
    dv (n c) (h c) = partner s c := Fin.ext (e c)

theorem dev_bar (c : Dev nD) (s : Fin 4) :
    (![dv (k0_dev1 c) (k0_dev1_lt c), dv (k0_dev2 c) (k0_dev2_lt c), dv (k0_dev3 c) (k0_dev3_lt c),
          dv (k0_dev4 c) (k0_dev4_lt c)] : Fin 4 → Dev nD) s = partner s c := by
  match s with
  | 0 => exact dev_eq k0_dev1 k0_dev1_lt 0 (by decide +kernel) c
  | 1 => exact dev_eq k0_dev2 k0_dev2_lt 1 (by decide +kernel) c
  | 2 => exact dev_eq k0_dev3 k0_dev3_lt 2 (by decide +kernel) c
  | 3 => exact dev_eq k0_dev4 k0_dev4_lt 3 (by decide +kernel) c

theorem dev_stats (c : Dev nD) (s : Fin 4) (t : Fin 2) :
    (![![dv (k0_dev5 c) (k0_dev5_lt c), dv (k0_dev7 c) (k0_dev7_lt c)],
          ![dv (k0_dev9 c) (k0_dev9_lt c), dv (k0_dev11 c) (k0_dev11_lt c)],
          ![dv (k0_dev13 c) (k0_dev13_lt c), dv (k0_dev15 c) (k0_dev15_lt c)],
          ![dv (k0_dev17 c) (k0_dev17_lt c), dv (k0_dev19 c) (k0_dev19_lt c)]] : Fin 4 → Fin 2 → Dev nD) s t = partner s c := by
  match s, t with
  | 0, 0 => exact dev_eq k0_dev5 k0_dev5_lt 0 (by decide +kernel) c
  | 0, 1 => exact dev_eq k0_dev7 k0_dev7_lt 0 (by decide +kernel) c
  | 1, 0 => exact dev_eq k0_dev9 k0_dev9_lt 1 (by decide +kernel) c
  | 1, 1 => exact dev_eq k0_dev11 k0_dev11_lt 1 (by decide +kernel) c
  | 2, 0 => exact dev_eq k0_dev13 k0_dev13_lt 2 (by decide +kernel) c
  | 2, 1 => exact dev_eq k0_dev15 k0_dev15_lt 2 (by decide +kernel) c
  | 3, 0 => exact dev_eq k0_dev17 k0_dev17_lt 3 (by decide +kernel) c
  | 3, 1 => exact dev_eq k0_dev19 k0_dev19_lt 3 (by decide +kernel) c

theorem dev_out (c : Dev nD) (s : Fin 4) (t : Fin 2) :
    (![![dv (k0_dev6 c) (k0_dev6_lt c), dv (k0_dev8 c) (k0_dev8_lt c)],
          ![dv (k0_dev10 c) (k0_dev10_lt c), dv (k0_dev12 c) (k0_dev12_lt c)],
          ![dv (k0_dev14 c) (k0_dev14_lt c), dv (k0_dev16 c) (k0_dev16_lt c)],
          ![dv (k0_dev18 c) (k0_dev18_lt c), dv (k0_dev20 c) (k0_dev20_lt c)]] : Fin 4 → Fin 2 → Dev nD) s t = partner s c := by
  match s, t with
  | 0, 0 => exact dev_eq k0_dev6 k0_dev6_lt 0 (by decide +kernel) c
  | 0, 1 => exact dev_eq k0_dev8 k0_dev8_lt 0 (by decide +kernel) c
  | 1, 0 => exact dev_eq k0_dev10 k0_dev10_lt 1 (by decide +kernel) c
  | 1, 1 => exact dev_eq k0_dev12 k0_dev12_lt 1 (by decide +kernel) c
  | 2, 0 => exact dev_eq k0_dev14 k0_dev14_lt 2 (by decide +kernel) c
  | 2, 1 => exact dev_eq k0_dev16 k0_dev16_lt 2 (by decide +kernel) c
  | 3, 0 => exact dev_eq k0_dev18 k0_dev18_lt 3 (by decide +kernel) c
  | 3, 1 => exact dev_eq k0_dev20 k0_dev20_lt 3 (by decide +kernel) c

/-! ## The windows' contents -/

variable (m : (ℓ : Loc nD τ sig) → Buf (Elt F) ℓ) (ρ : Dev nD → PrngReg)

/-- The memory at launch. -/
def s₀ : MemSt nD τ sig (Elt F) := ⟨m, fun _ => 0, ρ⟩

/-- What the devices' windows hold. -/
def inp : In F where
  x c := (win0_0.blk Gen.t0_0).view.read (Elt F) (m ((c : Thread nD τ).loc main_arg0))
  wq c := (win0_1.blk Gen.t0_0).view.read (Elt F) (m ((c : Thread nD τ).loc main_arg1))
  wo c := (win0_2.blk Gen.t0_0).view.read (Elt F) (m ((c : Thread nD τ).loc main_arg4))
  k c := (win0_3.blk Gen.t0_0).view.read (Elt F) (m ((c : Thread nD τ).loc main_arg2))
  v c := (win0_4.blk Gen.t0_0).view.read (Elt F) (m ((c : Thread nD τ).loc main_arg3))

/-- Device `c`'s result. -/
def result (I : In F) (c : Dev nD) : Vec F S2x128x512 .f32 := outAll fun t => outT (last I c t) (I.wo c)

/-! ## The pipeline's data -/

/-- What device `c`'s body starts from, but for the scratch buffers. -/
def start (c : Dev nD) : sProp 𝕄 := iprop(G' (inp m) c ∗ credit c ∗ levAts L lv)

def Φ₀ (c : Dev nD) : sProp 𝕄 := iprop(start m c ∗ scr c)
def Φ₁ (c : Dev nD) : sProp 𝕄 :=
  iprop(semVal (barCell c) 0 ∗ (bigSep Finset.univ fun p : ST => quad (fun i => semVal (kcell c i) 0) p) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wo c
    | ⟨3, _⟩ => (inp m).k c
    | ⟨4, _⟩ => (inp m).v c
    | ⟨5, _⟩ => result (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A staging buffer as the body holds it. -/
theorem stg_all (c : Dev nD) (b : Ref sig .tc) (X : b.ty.Contents (Elt F)) :
    (stg c b X : sProp 𝕄) = Held c (Memref.whole b) Finset.univ (· = X) := by
  unfold Held
  simp only [Memref.view_whole, View.read_whole]

/-! ## The body's obligation -/

section Body

variable (c : Dev nD)

def bodyPre : sProp 𝕄 :=
  iprop(Φ₀ m c ∗ (dats m ρ 0 c).owesAt () (Gen.t0_0 : Fin cfg0.N).castSucc
    ∗ (∃ d, stg c cc0_stg0_0 ((dats m ρ 0 c).before (0 : Fin 6) Gen.t0_0 d))
    ∗ (∃ d, stg c cc0_stg1_0 ((dats m ρ 0 c).before (1 : Fin 6) Gen.t0_0 d))
    ∗ (∃ d, stg c cc0_stg2_0 ((dats m ρ 0 c).before (2 : Fin 6) Gen.t0_0 d))
    ∗ (∃ d, stg c cc0_stg3_0 ((dats m ρ 0 c).before (3 : Fin 6) Gen.t0_0 d))
    ∗ (∃ d, stg c cc0_stg4_0 ((dats m ρ 0 c).before (4 : Fin 6) Gen.t0_0 d))
    ∗ (∃ d, stg c cc0_stg5_0 ((dats m ρ 0 c).before (5 : Fin 6) Gen.t0_0 d)))

def bodyPost : sProp 𝕄 :=
  iprop(Φ₁ c ∗ (dats m ρ 0 c).owesAt () (Gen.t0_0 : Fin cfg0.N).succ
    ∗ stg c cc0_stg0_0 ((inp m).x c) ∗ stg c cc0_stg1_0 ((inp m).wq c) ∗ stg c cc0_stg2_0 ((inp m).wo c)
    ∗ stg c cc0_stg3_0 ((inp m).k c) ∗ stg c cc0_stg4_0 ((inp m).v c) ∗ stg c cc0_stg5_0 (result (inp m) c))

/-- What the launch deals, in the form the body takes it. -/
theorem ghost_before :
    (iprop(linear (F := F) c ∗ credit (F := F) c ∗ bigSep Finset.univ fun p : ST => land (F := F) c p.1 p.2) : sProp 𝕄)
      ⊢ iprop(bar (F := F) c ∗ (before (F := F) c 0 ∗ before (F := F) c 1 ∗ before (F := F) c 2 ∗ before (F := F) c 3)) := by
  have hb : iprop(before (F := F) c 0 ∗ before (F := F) c 1 ∗ before (F := F) c 2 ∗ before (F := F) c 3)
      = (bigSep Finset.univ fun p : ST => iprop(tok c p.1 p.2 ∗ (pos c p.1 p.2 ∗ crs c p.1 p.2)) : sProp 𝕄) := by
    rw [bigSep_ST]
    rfl
  have hp : (bigSep Finset.univ fun p : ST => quad (fun i => atPos ER (kcell c i) 0 ∅ 0) p : sProp 𝕄)
      = bigSep Finset.univ fun p : ST => pos c p.1 p.2 := rfl
  rw [hb]
  unfold linear payToks credit bar
  rw [bigSep_CI, lands_eq, bigSep_four, bigSep_sep', bigSep_sep', hp]
  iintro ⟨⟨⟨Hat, Hpos⟩, ⟨Hd, Ht⟩⟩, ⟨Hc, Hcr⟩, Hl⟩
  isplitr [Hpos Ht Hcr]
  · isplitl [Hat]; · iexact Hat
    isplitl [Hc]; · iexact Hc
    isplitl [Hd] <;> iassumption
  isplitl [Ht]; · iexact Ht
  isplitl [Hpos] <;> iassumption

theorem after_done :
    (iprop(after (F := F) c 0 ∗ after (F := F) c 1 ∗ after (F := F) c 2 ∗ after (F := F) c 3) : sProp 𝕄)
      ⊢ iprop((bigSep Finset.univ fun p : ST => land (F := F) c p.1 p.2)
        ∗ bigSep Finset.univ fun p : ST => quad (fun i => semVal (kcell c i) 0) p) := by
  have hb : iprop(after (F := F) c 0 ∗ after (F := F) c 1 ∗ after (F := F) c 2 ∗ after (F := F) c 3)
      = (bigSep Finset.univ fun p : ST => iprop(land (F := F) c p.1 p.2 ∗ zero c p.1 p.2) : sProp 𝕄) := by
    rw [bigSep_ST]
    rfl
  have hz : (bigSep Finset.univ fun p : ST => quad (fun i => semVal (kcell c i) 0) p : sProp 𝕄)
      = bigSep Finset.univ fun p : ST => zero c p.1 p.2 := rfl
  rw [hb, hz, bigSep_sep']

theorem before_0 (d) : (dats m ρ 0 c).before (0 : Fin 6) Gen.t0_0 d = (inp m).x c := by
  unfold Dat.before; rw [if_pos (Gen.fetch0_0 _)]; rfl
theorem before_1 (d) : (dats m ρ 0 c).before (1 : Fin 6) Gen.t0_0 d = (inp m).wq c := by
  unfold Dat.before; rw [if_pos (Gen.fetch0_1 _)]; rfl
theorem before_2 (d) : (dats m ρ 0 c).before (2 : Fin 6) Gen.t0_0 d = (inp m).wo c := by
  unfold Dat.before; rw [if_pos (Gen.fetch0_2 _)]; rfl
theorem before_3 (d) : (dats m ρ 0 c).before (3 : Fin 6) Gen.t0_0 d = (inp m).k c := by
  unfold Dat.before; rw [if_pos (Gen.fetch0_3 _)]; rfl
theorem before_4 (d) : (dats m ρ 0 c).before (4 : Fin 6) Gen.t0_0 d = (inp m).v c := by
  unfold Dat.before; rw [if_pos (Gen.fetch0_4 _)]; rfl

/-- The body from `bodyPre` to `bodyPost`. -/
theorem sound_body (Kt : PUnit → sProp (MT nD τ sig Unit (Elt F) ℕ UU ℕ)) :
    iprop(bodyPre m ρ c ∗ (bodyPost m ρ c -∗ Kt ⟨⟩)) ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        accM (Memref.isWhole_whole _) staM (Memref.isWhole_whole _) sbM (Memref.isWhole_whole _)
        rbM (Memref.isWhole_whole _) rsM (Memref.isWhole_whole _) (Memref.whole cc0_scratch5) (Memref.isWhole_whole _)
        (Memref.whole cc0_scratch6) (Memref.isWhole_whole _) (Memref.whole cc0_scratch7) (Memref.isWhole_whole _)
        (Memref.whole cc0_scratch8) (Memref.isWhole_whole _) cc0_scratch9 cc0_scratch10 cc0_scratch11 cc0_scratch12) Kt := by
  rw [body_eq]
  simp only [wp_deviceId]
  unfold bodyPre Φ₀ start G'
  simp only [before_0, before_1, before_2, before_3, before_4]
  simp only [stg_all]
  iintro ⟨⟨⟨⟨⟨%K, #HR, Hlin⟩, Hcr, #Hlev⟩, Hscr⟩, Ho, ⟨%d0, Hx⟩, ⟨%d1, Hwq⟩, ⟨%d2, Hwo⟩, ⟨%d3, HK⟩, ⟨%d4, HV⟩, ⟨%d5, H5⟩⟩, Hk⟩
  unfold Dat.owesAt Pipeline.owesWithin
  icases Ho with ⟨%W, %hW, HO⟩
  rw [show (dats m ρ 0 c).owed (Gen.t0_0 : Fin cfg0.N).castSucc = owedB c 0 from rfl]
  ihave Hp := (scr_pieces (F := F) c) $$ Hscr
  unfold pieces
  icases Hp with ⟨Htmp, Hb, H14, Hl⟩
  ihave Hg := (ghost_before (F := F) c) $$ [Hlin Hcr Hl]
  · isplitl [Hlin]; · iexact Hlin
    isplitl [Hcr] <;> iassumption
  icases Hg with ⟨Hbar, Hbef⟩
  iapply (wp_body (inp m) K c Kt (Memref.isWhole_whole _) (Memref.isWhole_whole _)
      (Memref.whole cc0_stg0_0) (Memref.whole cc0_stg1_0) (Memref.whole cc0_stg2_0) (Memref.whole cc0_stg3_0) (Memref.whole cc0_stg4_0)
      (Memref.whole cc0_stg5_0) (Memref.whole cc0_scratch5) (Memref.whole cc0_scratch6) (Memref.whole cc0_scratch7) (Memref.whole cc0_scratch8)
      _ _ _ (dev_bar c) (dev_stats c) (dev_out c)) $$ [Hx Hwq Hwo HK HV H5 HO Htmp Hb H14 Hbar Hbef]
  · isplitr; · iexact HR
    isplitr; · iexact Hlev
    unfold given ins
    isplitl [Hx Hwq Hwo HK HV]
    · isplitl [Hx]; · iexact Hx
      isplitl [Hwq]; · iexact Hwq
      isplitl [Hwo]; · iexact Hwo
      isplitl [HK] <;> iassumption
    isplitl [Htmp]; · iexact Htmp
    isplitl [Hb]; · iexact Hb
    isplitl [H14]; · iexact H14
    isplitl [H5]
    · iapply (Held.mono fun _ _ => trivial); iexact H5
    isplitl [Hbar]; · iexact Hbar
    isplitl [Hbef]; · iexact Hbef
    unfold Ow
    iexists W
    iexact HO
  unfold back ins
  iintro ⟨⟨Hx, Hwq, Hwo, HK, HV⟩, Htmp, Hb, H14, H5, Hz, Haft, HO⟩
  ihave Hd := (after_done (F := F) c) $$ Haft
  icases Hd with ⟨Hl, Hzs⟩
  iapply Hk
  unfold bodyPost Φ₁
  simp only [stg_all]
  isplitl [Htmp Hb H14 Hz Hl Hzs]
  · isplitl [Hz]; · iexact Hz
    isplitl [Hzs]; · iexact Hzs
    iapply (pieces_scr (F := F) c)
    unfold pieces
    isplitl [Htmp]; · iexact Htmp
    isplitl [Hb]; · iexact Hb
    isplitl [H14] <;> iassumption
  isplitl [HO]
  · unfold Dat.owesAt Pipeline.owesWithin Ow
    icases HO with ⟨%W', HO⟩
    rw [show (dats m ρ 0 c).owed (Gen.t0_0 : Fin cfg0.N).succ = 0 from rfl]
    iexists W'
    isplitr; · ipureintro; exact fun _ _ => Or.inl trivial
    iexact HO
  isplitl [Hx]; · iexact Hx
  isplitl [Hwq]; · iexact Hwq
  isplitl [Hwo]; · iexact Hwo
  isplitl [HK]; · iexact HK
  isplitl [HV]; · iexact HV
  iapply (Held.mono (ψ := (· = result (inp m) c)) fun f h => outF_done (fun t => outT (last (inp m) c t) ((inp m).wo c)) f h)
  iexact H5

theorem bigSep_W (Φ : Fin cfg0.W → sProp (MT nD τ sig Unit (Elt F) ℕ UU ℕ)) : bigSep Finset.univ Φ
    = iprop(Φ (0 : Fin 6) ∗ Φ (1 : Fin 6) ∗ Φ (2 : Fin 6) ∗ Φ (3 : Fin 6) ∗ Φ (4 : Fin 6) ∗ Φ (5 : Fin 6)) := Gen.bigSep_W0 Φ

set_option maxRecDepth 40000 in
/-- The body's obligation on device `c`. -/
theorem body_obligation : BodyObligation (dats (F := F) m ρ 0 c) (defs₀ (F := F)) 𝒱₀ () Set.univ := fun t => by
  rw [show t = (Gen.t0_0 : Fin cfg0.N) from Gen.fin_N0 t]
  rw [bigSep_W, bigSep_W]
  simp only [owns_whole_eq]
  show bodyPre m ρ c ⊢ wp frame (wpE (defs₀ (F := F)) 𝒱₀ c none) Set.univ _ (fun _ => bodyPost m ρ c)
  iintro H
  iapply (sound_body m ρ c fun _ => bodyPost m ρ c)
  isplitl [H]; · iexact H
  iintro H
  iexact H

end Body

/-! ## The launch -/

theorem own_sems : Pipeline.OwnSemFacts cfg0.spec osem where
  isScoped := by decide
  inj := fun a b h => Option.some.inj (csem_inj (a₁ := some a) (a₂ := some b) h)
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, Gen.scopedRest0_eq, ownSems0_eq, unscopedSems0_eq]
  unfold Φ₁ scr
  exact BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

def u₀ : UU := (initOf (Pipeline.cells cfgs Gen.cellOf_inj) (Pipeline.launchToks cfgs Gen.cellOf_inj), initOf cells toksF)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

set_option maxRecDepth 40000 in
theorem run_main : θ_run defs (onTc (τ := τ) (main (F := F))) (s₀ m ρ)
    (fun r => (∀ (c : Dev nD) (w : Fin cfg0.W), r.2.mem ((cfg0.win w).arr.view.loc (c : Thread nD τ)) = finalA m ρ c w)
      ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ own_sems (Pipeline.PreFacts.none _) EP defs₀ 𝒱₀ m ρ main
    (hmain := fun _ => rfl)
    (hbody := body_obligation m ρ) (hne := fun w => by fin_cases w <;> exact Nat.succ_pos _) (harr := Gen.arr_whole0)
    (hstage := Gen.stage_whole0) (hshare := share_eq m ρ) (hdistinct := Gen.winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Proto

end
-- ==== Proof.KernelIdeal.Ends.lean ====
/-
  The run of the whole program stated on the devices' arrays: the arguments are unchanged, the result is `result` of the
  argument arrays, and every counter is zero again.
-/
module

public import proofs.«01_k».proof.Proof.KernelIdeal.Run
public import Idealize.ShloMosaic.Lib.Pipeline.ValueKit.Geometry
public import Idealize.ShloMosaic.Lib.Claim

@[expose] public section

noncomputable section

namespace Cert.KernelIdeal.Proto

open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The devices' argument arrays. -/
def args : In F where
  x c := m ((c : Thread nD τ).loc main_arg0)
  wq c := m ((c : Thread nD τ).loc main_arg1)
  wo c := m ((c : Thread nD τ).loc main_arg4)
  k c := m ((c : Thread nD τ).loc main_arg2)
  v c := m ((c : Thread nD τ).loc main_arg3)

/-- Each window is its whole array. -/
theorem inp_eq : inp m = args m := by
  have e (I J : In F) (h0 : I.x = J.x) (h1 : I.wq = J.wq) (h2 : I.wo = J.wo) (h3 : I.k = J.k) (h4 : I.v = J.v) : I = J := by
    cases I; cases J; simp only at h0 h1 h2 h3 h4; subst h0 h1 h2 h3 h4; rfl
  refine e _ _ ?_ ?_ ?_ ?_ ?_ <;> funext c i
  · show m ((c : Thread nD τ).loc main_arg0) ((win0_0.blk Gen.t0_0).view.emb i) = m ((c : Thread nD τ).loc main_arg0) i
    exact congrArg _ (funext fun a => Fin.ext (Pipeline.Window.rect_emb_val_of_index_zero win0_0 Gen.t0_0 a (by fin_cases a <;> rfl) i))
  · show m ((c : Thread nD τ).loc main_arg1) ((win0_1.blk Gen.t0_0).view.emb i) = m ((c : Thread nD τ).loc main_arg1) i
    exact congrArg _ (funext fun a => Fin.ext (Pipeline.Window.rect_emb_val_of_index_zero win0_1 Gen.t0_0 a (by fin_cases a <;> rfl) i))
  · show m ((c : Thread nD τ).loc main_arg4) ((win0_2.blk Gen.t0_0).view.emb i) = m ((c : Thread nD τ).loc main_arg4) i
    exact congrArg _ (funext fun a => Fin.ext (Pipeline.Window.rect_emb_val_of_index_zero win0_2 Gen.t0_0 a (by fin_cases a <;> rfl) i))
  · show m ((c : Thread nD τ).loc main_arg2) ((win0_3.blk Gen.t0_0).view.emb i) = m ((c : Thread nD τ).loc main_arg2) i
    exact congrArg _ (funext fun a => Fin.ext (Pipeline.Window.rect_emb_val_of_index_zero win0_3 Gen.t0_0 a (by fin_cases a <;> rfl) i))
  · show m ((c : Thread nD τ).loc main_arg3) ((win0_4.blk Gen.t0_0).view.emb i) = m ((c : Thread nD τ).loc main_arg3) i
    exact congrArg _ (funext fun a => Fin.ext (Pipeline.Window.rect_emb_val_of_index_zero win0_4 Gen.t0_0 a (by fin_cases a <;> rfl) i))

/-- The result array at the end. -/
theorem finalA_out (c : Dev nD) : finalA m ρ c (5 : Fin 6) = result (args m) c := by
  rw [← inp_eq]
  exact (dats m ρ 0 c).arrAt_eq_of_after_last (5 : Fin 6) (Gen.t0_0 : Fin cfg0.N) (by decide +kernel) (result (inp m) c)
    (fun j => rfl)

theorem run : θ_run defs (onTc (τ := τ) (main (F := F))) ⟨m, fun _ => 0, ρ⟩
    (fun r => (∀ c : Dev nD, r.2.mem ((c : Thread nD τ).loc main_v1) = result (args m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  θ_run_mono (run_main m ρ) fun r h => ⟨fun c =>
    ⟨(h.1 c (5 : Fin 6)).trans (finalA_out m ρ c),
      (h.1 c (0 : Fin 6)).trans ((dats m ρ 0 c).arrAt_in (0 : Fin 6) rfl _),
      (h.1 c (1 : Fin 6)).trans ((dats m ρ 0 c).arrAt_in (1 : Fin 6) rfl _),
      (h.1 c (3 : Fin 6)).trans ((dats m ρ 0 c).arrAt_in (3 : Fin 6) rfl _),
      (h.1 c (4 : Fin 6)).trans ((dats m ρ 0 c).arrAt_in (4 : Fin 6) rfl _),
      (h.1 c (2 : Fin 6)).trans ((dats m ρ 0 c).arrAt_in (2 : Fin 6) rfl _)⟩, h.2⟩

end Cert.KernelIdeal.Proto

end
-- ==== Proof.Softmax.lean ====
/-
  Softmax over extended reals, in parts.

  A row of attention scores is a family of real numbers, one for each key. For a set of keys, `top` is the greatest of its
  scores and `wsum` the sum of values weighted by the exponentials of the scores, taken at some level. These are what a
  device, or a step of the reference, holds of the keys that it has seen. The lemmas say that what is held of two disjoint
  sets of keys merges to what is held of their union, whatever the values are: only the scores need be finite.
-/
module

public import Idealize.ShloMosaic.PureOps.Ideal

@[expose] public section

noncomputable section

namespace Cert.Softmax

open Idealize.ShloMosaic

variable {ι : Type} [DecidableEq ι] (σ : ι → ℝ)

/-- The greatest score of the keys `S`. -/
def top (S : Finset ι) : EReal := S.sup fun j => (σ j : EReal)

/-- The values `v` of the keys `S`, weighted by the exponentials of the scores less `μ`, summed. -/
def wsum (S : Finset ι) (μ : EReal) (v : ι → EReal) : EReal := ∑ j ∈ S, v j * Ideal.exp ((σ j : EReal) - μ)

theorem top_union (S T : Finset ι) : top σ (S ∪ T) = max (top σ S) (top σ T) := Finset.sup_union

theorem wsum_union {S T : Finset ι} (h : Disjoint S T) (μ : EReal) (v : ι → EReal) :
    wsum σ (S ∪ T) μ v = wsum σ S μ v + wsum σ T μ v := Finset.sum_union h

/-- The greatest score of some keys is a real number. -/
theorem top_real {S : Finset ι} (h : S.Nonempty) : ∃ μ : ℝ, top σ S = μ :=
  let ⟨i, _, hi⟩ := Finset.exists_mem_eq_sup S h fun j => (σ j : EReal)
  ⟨σ i, hi⟩

/-- A real factor that is not negative goes into a sum of extended reals. -/
theorem sum_mul_real (S : Finset ι) (f : ι → EReal) {r : ℝ} (hr : 0 ≤ r) :
    (∑ j ∈ S, f j) * (r : EReal) = ∑ j ∈ S, f j * (r : EReal) := by
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- A sum of real numbers is the same sum among the extended reals. -/
theorem coe_sum (S : Finset ι) (f : ι → ℝ) : ((∑ j ∈ S, f j : ℝ) : EReal) = ∑ j ∈ S, (f j : EReal) := by
  induction S using Finset.induction_on with
  | empty => simp
  | insert a S ha ih => rw [Finset.sum_insert ha, Finset.sum_insert ha, EReal.coe_add, ih]

theorem exp_sub_real (a b : ℝ) : Ideal.exp ((a : EReal) - (b : EReal)) = (Real.exp (a - b) : EReal) := by
  rw [← EReal.coe_sub, Ideal.exp_coe]

/-- A weighted sum taken at one level, rescaled to another. -/
theorem wsum_rescale (S : Finset ι) (μ ν : ℝ) (v : ι → EReal) :
    wsum σ S μ v * Ideal.exp ((μ : EReal) - (ν : EReal)) = wsum σ S ν v := by
  unfold wsum
  rw [exp_sub_real, sum_mul_real _ _ (Real.exp_pos _).le]
  refine Finset.sum_congr rfl fun j _ => ?_
  rw [exp_sub_real, exp_sub_real, mul_assoc, ← EReal.coe_mul, ← Real.exp_add]
  congr 3
  ring

/-- What is held of some keys, rescaled to the greatest score of more keys. -/
theorem wsum_top_rescale {S T : Finset ι} (hS : S.Nonempty) (hT : T.Nonempty) (v : ι → EReal) :
    wsum σ S (top σ S) v * Ideal.exp (top σ S - top σ T) = wsum σ S (top σ T) v := by
  obtain ⟨μ, hμ⟩ := top_real σ hS
  obtain ⟨ν, hν⟩ := top_real σ hT
  rw [hμ, hν, wsum_rescale]

/-- What is held of two disjoint sets of keys merges to what is held of their union. -/
theorem merge {S T : Finset ι} (hS : S.Nonempty) (hT : T.Nonempty) (h : Disjoint S T) (v : ι → EReal) :
    wsum σ S (top σ S) v * Ideal.exp (top σ S - max (top σ S) (top σ T))
        + wsum σ T (top σ T) v * Ideal.exp (top σ T - max (top σ S) (top σ T))
      = wsum σ (S ∪ T) (top σ (S ∪ T)) v := by
  have hU : (S ∪ T).Nonempty := hS.mono Finset.subset_union_left
  rw [← top_union, wsum_top_rescale σ hS hU, wsum_top_rescale σ hT hU, wsum_union σ h]

/-- Keys not seen before are added at the new greatest score directly. -/
theorem extend {S T : Finset ι} (hS : S.Nonempty) (h : Disjoint S T) (v : ι → EReal) :
    wsum σ S (top σ S) v * Ideal.exp (top σ S - top σ (S ∪ T)) + wsum σ T (top σ (S ∪ T)) v
      = wsum σ (S ∪ T) (top σ (S ∪ T)) v := by
  rw [wsum_top_rescale σ hS (hS.mono Finset.subset_union_left), wsum_union σ h]

/-- The normalizer of some keys is a positive real number. -/
theorem norm_real {S : Finset ι} (hS : S.Nonempty) :
    ∃ r : ℝ, 0 < r ∧ wsum σ S (top σ S) (fun _ => 1) = r := by
  obtain ⟨μ, hμ⟩ := top_real σ hS
  refine ⟨∑ j ∈ S, Real.exp (σ j - μ), Finset.sum_pos (fun j _ => Real.exp_pos _) hS, ?_⟩
  unfold wsum
  rw [hμ, coe_sum]
  simp only [exp_sub_real, one_mul]

/-- To divide by the normalizer is to multiply by its inverse. -/
theorem mul_inv_norm {S : Finset ι} (hS : S.Nonempty) (a : EReal) :
    a * Ideal.div 1 (wsum σ S (top σ S) fun _ => 1) = Ideal.div a (wsum σ S (top σ S) fun _ => 1) := by
  obtain ⟨r, hr, h⟩ := norm_real σ hS
  rw [h, Ideal.div_coe hr.ne', Ideal.div_coe hr.ne', one_mul]

end Cert.Softmax

end
-- ==== Proof.Spec.lean ====
/-
  What kernel and reference both compute, over the extended reals: the attention of every head over the keys of all sixteen
  devices, projected by the output weights. Also which keys a device holds, and which the reference takes in one step.
-/
module

public import proofs.«01_k».proof.Proof.Softmax
public import Idealize.ShloMosaic.Lib.Pointwise

@[expose] public section

noncomputable section

namespace Cert.Spec

open Idealize.ShloMosaic Cert.Softmax

/-- The shapes of the activations, of a weight matrix, of the keys (and values) of all devices. -/
abbrev Act : Type := FVec Ideal ⟨3, ![2, 128, 512]⟩ .f32
abbrev Wt : Type := FVec Ideal ⟨2, ![512, 512]⟩ .f32
abbrev Keys : Type := FVec Ideal ⟨4, ![2, 2048, 2, 64]⟩ .f32

/-! ## Constants -/

/-- The scale of the scores. -/
def scale : EReal := Ideal.ofBits .f32 0x3E000000#32

theorem scale_real : scale = ((1 / 8 : ℝ) : EReal) := by
  unfold scale
  simp [Ideal.ofBits, Ideal.ieee]
  rw [← EReal.coe_mul]
  norm_num

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A maximum taken from `-∞` on. -/
theorem fold_max {n : ℕ} (f : Fin n → EReal) : Finset.univ.fold max ⊥ f = Finset.univ.sup f := rfl

/-! ## Attention -/

/-- The group of a head: four heads share one key head. -/
def group (h : Fin 8) : Fin 2 := ⟨h.val / 4, by omega⟩
/-- The column of coordinate `d` of head `h`. -/
def column (h : Fin 8) (d : Fin 64) : Fin 512 := ⟨64 * h.val + d.val, by omega⟩

/-- Coordinate `d` of query `a` of head `h`. -/
def query (x : Act) (w : Wt) (t : Fin 2) (h : Fin 8) (a : Fin 128) (d : Fin 64) : EReal :=
  ∑ e : Fin 512, (x (ix3 t a e) : EReal) * w (ix2 e (column h d))

/-- The score of query `a` of head `h` at key `j`. -/
def score (x : Act) (w : Wt) (K : Keys) (t : Fin 2) (h : Fin 8) (a : Fin 128) (j : Fin 2048) : EReal :=
  (∑ d : Fin 64, query x w t h a d * K (ix4 t j (group h) d)) * scale

/-- The scores as real numbers. -/
def realScore (x : Act) (w : Wt) (K : Keys) (t : Fin 2) (h : Fin 8) (a : Fin 128) (j : Fin 2048) : ℝ :=
  (score x w K t h a j).toReal

/-- Every score is finite. -/
def FiniteScores (x : Act) (w : Wt) (K : Keys) : Prop :=
  ∀ t h a j, score x w K t h a j = (realScore x w K t h a j : EReal)

/-- Coordinate `d` of the values that the queries of head `h` weigh. -/
def value (V : Keys) (t : Fin 2) (h : Fin 8) (d : Fin 64) (j : Fin 2048) : EReal := V (ix4 t j (group h) d)

/-- Coordinate `d` of the attention of query `a` of head `h`. -/
def attention (x : Act) (w : Wt) (K V : Keys) (t : Fin 2) (h : Fin 8) (a : Fin 128) (d : Fin 64) : EReal :=
  Ideal.div
    (wsum (realScore x w K t h a) Finset.univ (top (realScore x w K t h a) Finset.univ) (value V t h d))
    (wsum (realScore x w K t h a) Finset.univ (top (realScore x w K t h a) Finset.univ) fun _ => 1)

/-- The result: the attention of all heads side by side, projected. -/
def output (x : Act) (w : Wt) (K V : Keys) (wo : Wt) (t : Fin 2) (a : Fin 128) (c : Fin 512) : EReal :=
  ∑ r : Fin 512, attention x w K V t ⟨r.val / 64, by omega⟩ a ⟨r.val % 64, by omega⟩ * wo (ix2 r c)

/-! ## Finite scores -/

/-- An extended real that is a real number. -/
def IsReal (e : EReal) : Prop := ∃ r : ℝ, e = r

theorem IsReal.mul {a b : EReal} : IsReal a → IsReal b → IsReal (a * b)
  | ⟨r, hr⟩, ⟨s, hs⟩ => ⟨r * s, by rw [hr, hs, EReal.coe_mul]⟩

theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

theorem finiteScores (x : Act) (w : Wt) (K : Keys) (hx : ∀ i, IsReal (x i)) (hw : ∀ i, IsReal (w i))
    (hK : ∀ i, IsReal (K i)) : FiniteScores x w K := by
  intro t h a j
  have : IsReal (score x w K t h a j) :=
    .mul (.sum fun d => .mul (.sum fun e => .mul (hx _) (hw _)) (hK _)) ⟨_, scale_real⟩
  obtain ⟨r, hr⟩ := this
  unfold realScore
  rw [hr, EReal.toReal_coe]

/-! ## Sets of keys -/

/-- Key `k` of device `c` among the keys of all devices. -/
def key (c : Fin 16) (k : Fin 128) : Fin 2048 := ⟨128 * c.val + k.val, by omega⟩

/-- The keys that the devices `D` hold. -/
def keys (D : Finset (Fin 16)) : Finset (Fin 2048) := Finset.univ.filter fun j => (⟨j.val / 128, by omega⟩ : Fin 16) ∈ D

theorem keys_union (D E : Finset (Fin 16)) : keys (D ∪ E) = keys D ∪ keys E := by
  ext j
  simp [keys]

theorem keys_disjoint {D E : Finset (Fin 16)} (h : Disjoint D E) : Disjoint (keys D) (keys E) := by
  rw [Finset.disjoint_left] at h ⊢
  intro j hD hE
  simp only [keys, Finset.mem_filter, Finset.mem_univ, true_and] at hD hE
  exact h hD hE

theorem keys_nonempty {D : Finset (Fin 16)} (h : D.Nonempty) : (keys D).Nonempty := by
  obtain ⟨c, hc⟩ := h
  refine ⟨key c 0, ?_⟩
  have e : (⟨(key c 0).val / 128, by omega⟩ : Fin 16) = c := Fin.ext (by simp [key])
  simp only [keys, Finset.mem_filter, Finset.mem_univ, true_and]
  rw [e]
  exact hc

theorem keys_univ : keys Finset.univ = Finset.univ := by
  ext j
  simp [keys]

theorem key_injective (c : Fin 16) : Function.Injective (key c) := fun a b h => by
  have := congrArg Fin.val h
  simp only [key] at this
  exact Fin.ext (by omega)

/-- The keys of one device. -/
theorem keys_one (c : Fin 16) : keys {c} = Finset.univ.map ⟨key c, key_injective c⟩ := by
  ext j
  rw [Finset.mem_map]
  simp only [keys, Finset.mem_filter, Finset.mem_univ, true_and, Finset.mem_singleton]
  constructor
  · intro h
    have := congrArg Fin.val h
    simp only [] at this
    exact ⟨⟨j.val % 128, by omega⟩, Fin.ext (by show 128 * c.val + j.val % 128 = j.val; omega)⟩
  · rintro ⟨a, ha⟩
    have : 128 * c.val + a.val = j.val := congrArg Fin.val ha
    exact Fin.ext (by show j.val / 128 = c.val; omega)

/-- Key `k` of the reference's step `n` among all keys. -/
def stepKey (n : Fin 2) (k : Fin 1024) : Fin 2048 := ⟨1024 * n.val + k.val, by omega⟩

theorem stepKey_injective (n : Fin 2) : Function.Injective (stepKey n) := fun a b h => by
  have := congrArg Fin.val h
  simp only [stepKey] at this
  exact Fin.ext (by omega)

/-- The keys that the reference takes in step `n`. -/
def steps (n : Fin 2) : Finset (Fin 2048) := Finset.univ.map ⟨stepKey n, stepKey_injective n⟩

theorem mem_steps (n : Fin 2) (j : Fin 2048) : j ∈ steps n ↔ j.val / 1024 = n.val := by
  unfold steps
  rw [Finset.mem_map]
  constructor
  · rintro ⟨a, -, ha⟩
    have : 1024 * n.val + a.val = j.val := congrArg Fin.val ha
    omega
  · intro h
    exact ⟨⟨j.val % 1024, by omega⟩, Finset.mem_univ _, Fin.ext (by show 1024 * n.val + j.val % 1024 = j.val; omega)⟩

theorem steps_nonempty (n : Fin 2) : (steps n).Nonempty :=
  ⟨stepKey n 0, (mem_steps _ _).2 (by show (1024 * n.val + 0) / 1024 = n.val; omega)⟩

theorem steps_disjoint : Disjoint (steps 0) (steps 1) := by
  rw [Finset.disjoint_left]
  intro j h0 h1
  rw [mem_steps] at h0 h1
  simp at h0 h1
  omega

theorem steps_union : steps 0 ∪ steps 1 = Finset.univ := by
  ext j
  simp only [Finset.mem_union, mem_steps, Finset.mem_univ, iff_true]
  simp
  omega

end Cert.Spec

end
-- ==== Proof.KernelIdeal.Read.lean ====
/-
  The kernel's values over the extended reals, read at an index.
-/
module

public import proofs.«01_k».proof.Proof.KernelIdeal.Values
public import proofs.«01_k».proof.Proof.Spec
public import Idealize.ShloMosaic.Lib.Pointwise

@[expose] public section

set_option maxRecDepth 16384

noncomputable section

namespace Cert.KernelIdeal.Phase

open Idealize.ShloMosaic

variable [Facts]

theorem pay6_apply (t : Fin 2) (x : Vec Ideal S2x128x512 .f32) (w : Vec Ideal S512x512 .f32) (a : Fin 128) (c : Fin 512) :
    Gen.k0_pay6 (xT t x) w (ix2 a c) = ∑ e : Fin 512, (x (ix3 t a e) : EReal) * w (ix2 e c) := by
  pointwise [Gen.k0_pay6, xT]

theorem pay16_apply (K : Vec Ideal S1x2x128x64 .f32) (Q : Vec Ideal S1x2x512x64 .f32) (g : Fin 2) (k : Fin 128) (r : Fin 512) :
    Gen.k0_pay16 K Q (ix3 g k r)
      = (∑ d : Fin 64, (K (ix4 0 g k d) : EReal) * Q (ix4 0 g r d)) * Ideal.ofBits .f32 0x3E000000#32 := by
  pointwise [Gen.k0_pay16]

theorem pay17_apply (K : Vec Ideal S1x2x128x64 .f32) (Q : Vec Ideal S1x2x512x64 .f32) (g : Fin 2) (r : Fin 512) :
    Gen.k0_pay17 K Q (ix3 g 0 r)
      = (Finset.univ.sup fun k : Fin 128 => (Gen.k0_pay16 K Q (ix3 g k r) : EReal)) := by
  pointwise [Gen.k0_pay17]
  rw [Spec.neg_inf]
  exact Spec.fold_max _

theorem pay18_apply (K : Vec Ideal S1x2x128x64 .f32) (Q : Vec Ideal S1x2x512x64 .f32) (g : Fin 2) (k : Fin 128) (r : Fin 512) :
    Gen.k0_pay18 K Q (ix3 g k r)
      = Ideal.exp ((Gen.k0_pay16 K Q (ix3 g k r) : EReal) - Gen.k0_pay17 K Q (ix3 g 0 r)) := by
  pointwise [Gen.k0_pay18]

theorem pay19_apply (K V : Vec Ideal S1x2x128x64 .f32) (Q : Vec Ideal S1x2x512x64 .f32) (g : Fin 2) (d : Fin 64) (r : Fin 512) :
    Gen.k0_pay19 K Q V (ix4 0 g d r)
      = ∑ k : Fin 128, (V (ix4 0 g k d) : EReal) * Gen.k0_pay18 K Q (ix3 g k r) := by
  pointwise [Gen.k0_pay19]

theorem pay20_apply (K : Vec Ideal S1x2x128x64 .f32) (Q : Vec Ideal S1x2x512x64 .f32) (g : Fin 2) (r : Fin 512) :
    Gen.k0_pay20 K Q (ix5 0 0 g 0 r) = Gen.k0_pay17 K Q (ix3 g 0 r) := by
  pointwise [Gen.k0_pay20]

theorem pay21_apply (K : Vec Ideal S1x2x128x64 .f32) (Q : Vec Ideal S1x2x512x64 .f32) (g : Fin 2) (r : Fin 512) :
    Gen.k0_pay21 K Q (ix5 0 0 g 0 r) = ∑ k : Fin 128, (Gen.k0_pay18 K Q (ix3 g k r) : EReal) := by
  pointwise [Gen.k0_pay21]

theorem first_m (t : Fin 2) (x : Vec Ideal S2x128x512 .f32) (w : Vec Ideal S512x512 .f32) (K V : Vec Ideal S2x128x2x64 .f32) :
    (first t x w K V).m = Gen.k0_pay20 (kAll t K) (qAll (Gen.k0_pay6 (xT t x) w)) := by
  unfold first
  with_reducible rfl

theorem merge_m (p q : St Ideal) (g : Fin 2) (r : Fin 512) :
    (merge p q).m (ix5 0 0 g 0 r) = max (p.m (ix5 0 0 g 0 r) : EReal) (q.m (ix5 0 0 g 0 r)) := by
  pointwise [merge, nextM, newM]

theorem merge_l (p q : St Ideal) (g : Fin 2) (r : Fin 512) :
    (merge p q).l (ix5 0 0 g 0 r)
      = (p.l (ix5 0 0 g 0 r) : EReal)
            * Ideal.exp ((p.m (ix5 0 0 g 0 r) : EReal) - max (p.m (ix5 0 0 g 0 r) : EReal) (q.m (ix5 0 0 g 0 r)))
          + (q.l (ix5 0 0 g 0 r) : EReal)
            * Ideal.exp ((q.m (ix5 0 0 g 0 r) : EReal) - max (p.m (ix5 0 0 g 0 r) : EReal) (q.m (ix5 0 0 g 0 r))) := by
  pointwise [merge, nextL, factor, newM]

theorem merge_a (p q : St Ideal) (g : Fin 2) (d : Fin 64) (r : Fin 512) :
    (merge p q).a (ix4 0 g d r)
      = (p.a (ix4 0 g d r) : EReal)
            * Ideal.exp ((p.m (ix5 0 0 g 0 r) : EReal) - max (p.m (ix5 0 0 g 0 r) : EReal) (q.m (ix5 0 0 g 0 r)))
          + (q.a (ix4 0 g d r) : EReal)
            * Ideal.exp ((q.m (ix5 0 0 g 0 r) : EReal) - max (p.m (ix5 0 0 g 0 r) : EReal) (q.m (ix5 0 0 g 0 r))) := by
  pointwise [merge, addB, scaleA, Gen.k0_pay22, factor, newM]

theorem oAll_apply (p : St Ideal) (r : Fin 512) (a : Fin 128) :
    oAll p (ix2 r a)
      = (p.a (ix4 0 (grp (hc r)) (dc r) (row (hc r) a)) : EReal)
          * Ideal.div 1 (p.l (ix5 0 0 (grp (hc r)) 0 (row (hc r) a))) := by
  pointwise [oAll, Gen.k0_pay126, lCol, aCol]

theorem outT_apply (p : St Ideal) (wo : Vec Ideal S512x512 .f32) (a : Fin 128) (c : Fin 512) :
    outT p wo (ix3 0 a c) = ∑ r : Fin 512, (oAll p (ix2 r a) : EReal) * wo (ix2 r c) := by
  pointwise [outT, Gen.k0_pay136]

end Cert.KernelIdeal.Phase

end
-- ==== Proof.KernelIdeal.Value.lean ====
/-
  What the kernel computes: after `s` stages a device holds, of every row of scores, what the keys of a set of devices give
  (their greatest score, normalizer and weighted values); the set doubles at every stage and holds all devices after the last.
-/
module

public import proofs.«01_k».proof.Proof.KernelIdeal.Read
public import proofs.«01_k».proof.Proof.KernelIdeal.Run

@[expose] public section

set_option maxRecDepth 16384

noncomputable section

namespace Cert.KernelIdeal.Proto

open Idealize.ShloMosaic Idealize.SL.Sem Cert.KernelIdeal.Phase Cert.Softmax Cert.Spec

variable [Facts]

/-! ## Which devices a state covers -/

/-- The devices whose keys device `c` has seen after `s` stages. -/
def devs : ℕ → Dev nD → Finset (Dev nD)
  | 0, c => {c}
  | s + 1, c => devs s c ∪ devs s (partner s c)

theorem devs_disjoint : ∀ (s : Fin 4) (c : Dev nD), Disjoint (devs s c) (devs s (partner s c)) := by decide +kernel
theorem devs_last : ∀ c : Dev nD, devs 4 c = Finset.univ := by decide +kernel

theorem devs_nonempty (s : ℕ) (c : Dev nD) : (devs s c).Nonempty := by
  induction s with
  | zero => exact Finset.singleton_nonempty c
  | succ s ih => exact ih.mono Finset.subset_union_left

/-! ## States -/

variable (x : Act) (w : Wt) (K V : Keys)

/-- A state of tile `t` holds what the keys of the devices `D` give. -/
structure Holds (t : Fin 2) (D : Finset (Dev nD)) (p : St Ideal) : Prop where
  m : ∀ h a, (p.m (ix5 0 0 (grp h) 0 (row h a)) : EReal) = top (realScore x w K t h a) (keys D)
  l : ∀ h a, (p.l (ix5 0 0 (grp h) 0 (row h a)) : EReal)
    = wsum (realScore x w K t h a) (keys D) (top (realScore x w K t h a) (keys D)) fun _ => 1
  a : ∀ h a d, (p.a (ix4 0 (grp h) d (row h a)) : EReal)
    = wsum (realScore x w K t h a) (keys D) (top (realScore x w K t h a) (keys D)) (value V t h d)

variable {x w K V}

theorem Holds.merge {t : Fin 2} {D E : Finset (Dev nD)} {p q : St Ideal} (hp : Holds x w K V t D p) (hq : Holds x w K V t E q)
    (hD : D.Nonempty) (hE : E.Nonempty) (h : Disjoint D E) : Holds x w K V t (D ∪ E) (Phase.merge p q) where
  m i a := by rw [merge_m, hp.m, hq.m, keys_union, top_union]
  l i a := by
    rw [merge_l, hp.m, hq.m, hp.l, hq.l, keys_union]
    exact Softmax.merge _ (keys_nonempty hD) (keys_nonempty hE) (keys_disjoint h) _
  a i a d := by
    rw [merge_a, hp.m, hq.m, hp.a, hq.a, keys_union]
    exact Softmax.merge _ (keys_nonempty hD) (keys_nonempty hE) (keys_disjoint h) _

theorem Holds.first {t : Fin 2} {c : Dev nD} {kc vc : Vec Ideal S2x128x2x64 .f32} (hs : FiniteScores x w K)
    (hk : ∀ (i : Fin 128) (g : Fin 2) (d : Fin 64), kc (ix4 t i g d) = K (ix4 t (key c i) g d))
    (hv : ∀ (i : Fin 128) (g : Fin 2) (d : Fin 64), vc (ix4 t i g d) = V (ix4 t (key c i) g d)) :
    Holds x w K V t {c} (Phase.first t x w kc vc) := by
  have e16 (h : Fin 8) (a i : Fin 128) :
      (Gen.k0_pay16 (kAll t kc) (qAll (Gen.k0_pay6 (F := Ideal) (xT t x) w)) (ix3 (grp h) i (row h a)) : EReal)
        = (realScore x w K t h a (key c i) : EReal) := by
    rw [pay16_apply, ← hs]
    unfold score query Spec.scale
    refine congrArg (· * _) (Finset.sum_congr rfl fun d _ => ?_)
    rw [mul_comm]
    refine congrArg₂ (· * ·) ?_ (hk i (grp h) d)
    show Gen.k0_pay6 (F := Ideal) (xT t x) w (ix2 (qi (row h a)) (col (hd (grp h) (row h a)) d)) = _
    rw [qi_row, hd_row, pay6_apply]
    rfl
  have e17 (h : Fin 8) (a : Fin 128) :
      (Gen.k0_pay17 (kAll t kc) (qAll (Gen.k0_pay6 (F := Ideal) (xT t x) w)) (ix3 (grp h) 0 (row h a)) : EReal)
        = top (realScore x w K t h a) (keys {c}) := by
    rw [pay17_apply, keys_one]
    unfold top
    rw [Finset.sup_map]
    exact Finset.sup_congr rfl fun i _ => e16 h a i
  have e18 (h : Fin 8) (a i : Fin 128) :
      (Gen.k0_pay18 (kAll t kc) (qAll (Gen.k0_pay6 (F := Ideal) (xT t x) w)) (ix3 (grp h) i (row h a)) : EReal)
        = Ideal.exp ((realScore x w K t h a (key c i) : EReal) - top (realScore x w K t h a) (keys {c})) := by
    rw [pay18_apply, e16, e17]
  have sum (h : Fin 8) (a : Fin 128) (μ : EReal) (v : Fin 2048 → EReal) : wsum (realScore x w K t h a) (keys {c}) μ v
      = ∑ i : Fin 128, v (key c i) * Ideal.exp ((realScore x w K t h a (key c i) : EReal) - μ) := by
    unfold wsum
    rw [keys_one, Finset.sum_map]
    rfl
  refine ⟨fun h a => ?_, fun h a => ?_, fun h a d => ?_⟩
  · rw [first_m, pay20_apply]
    exact e17 h a
  · refine (pay21_apply (kAll t kc) (qAll (Gen.k0_pay6 (F := Ideal) (xT t x) w))
      (grp h) (row h a)).trans ?_
    rw [sum]
    exact Finset.sum_congr rfl fun i _ => by rw [e18, one_mul]
  · refine (pay19_apply (kAll t kc) (kAll t vc)
      (qAll (Gen.k0_pay6 (F := Ideal) (xT t x) w)) (grp h) d (row h a)).trans ?_
    rw [sum]
    exact Finset.sum_congr rfl fun i _ => by rw [e18]; exact congrArg (· * _) (hv i (grp h) d)

/-- What is held after `s` stages. -/
theorem Holds.stages (I : In Ideal) (hs : FiniteScores x w K) (hx : ∀ c, I.x c = x) (hw : ∀ c, I.wq c = w)
    (hk : ∀ c t (i : Fin 128) (g : Fin 2) (d : Fin 64), I.k c (ix4 t i g d) = K (ix4 t (key c i) g d))
    (hv : ∀ c t (i : Fin 128) (g : Fin 2) (d : Fin 64), I.v c (ix4 t i g d) = V (ix4 t (key c i) g d)) (t : Fin 2) :
    ∀ s, s ≤ 4 → ∀ c, Holds x w K V t (devs s c) (st I s c t) := by
  intro s
  induction s with
  | zero =>
    intro _ c
    show Holds x w K V t {c} (Phase.first t (I.x c) (I.wq c) (I.k c) (I.v c))
    rw [hx, hw]
    exact .first hs (hk c t) (hv c t)
  | succ s ih =>
    intro h c
    exact (ih (by omega) c).merge (ih (by omega) (partner s c)) (devs_nonempty s c) (devs_nonempty s _)
      (devs_disjoint ⟨s, by omega⟩ c)

/-- The result on every device. -/
theorem result_apply (I : In Ideal) (wo : Wt) (hs : FiniteScores x w K) (hx : ∀ c, I.x c = x) (hw : ∀ c, I.wq c = w)
    (hwo : ∀ c, I.wo c = wo)
    (hk : ∀ c t (i : Fin 128) (g : Fin 2) (d : Fin 64), I.k c (ix4 t i g d) = K (ix4 t (key c i) g d))
    (hv : ∀ c t (i : Fin 128) (g : Fin 2) (d : Fin 64), I.v c (ix4 t i g d) = V (ix4 t (key c i) g d))
    (c : Dev nD) (t : Fin 2) (a : Fin 128) (b : Fin 512) :
    (result I c (ix3 t a b) : EReal) = output x w K V wo t a b := by
  have h := Holds.stages I hs hx hw hk hv t 4 le_rfl c
  rw [devs_last, ] at h
  show (outT (last I c t) (I.wo c) (ix3 0 a b) : EReal) = _
  rw [outT_apply, hwo]
  unfold output attention
  refine Finset.sum_congr rfl fun r _ => congrArg (· * _) ?_
  rw [oAll_apply]
  show ((st I 4 c t).a _ : EReal) * Ideal.div 1 ((st I 4 c t).l _) = _
  rw [h.a, h.l, keys_univ, mul_inv_norm _ Finset.univ_nonempty]
  rfl

end Cert.KernelIdeal.Proto

end
-- ==== Proof.ReferenceIdeal.Read.lean ====
/-
  The reference's values over the extended reals: its result cut into the steps that it takes, each read at an index.
-/
module

public import proofs.«01_k».proof.Proof.Spec
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Read

open Idealize.ShloMosaic Idealize.SL.Sem Idealize.ShloMosaic.TcCoe
open Cert.ReferenceIdeal Cert.ReferenceIdeal.Facts₀ Cert.ReferenceIdeal.Facts

/-! ## The steps -/

/-- All queries, head by head. -/
def queries (x : FVec Ideal S2x128x512 .f32) (w : FVec Ideal S512x512 .f32) : FVec Ideal S2x128x8x64 .f32 :=
  shapeCast _ (Host.dotGeneral dot_S2x128x512_S512x512_S2x128x512_2_0_01_1_n_n none x w) shapeCasts_S2x128x512_S2x128x8x64

/-- Keys or values repeated for the heads of a group. -/
def wide (K : FVec Ideal S2x2048x2x64 .f32) : FVec Ideal S2x2048x8x64 .f32 :=
  shapeCast _ (broadcastInDim S2x2048x2x4x64 ![0, 1, 2, 4] bcast_S2x2048x2x64_S2x2048x2x4x64_0_1_2_4 K)
    shapeCasts_S2x2048x2x4x64_S2x2048x8x64

/-- The part of step 0 and of step 1. -/
def part0 (K : FVec Ideal S2x2048x8x64 .f32) : FVec Ideal S2x1024x8x64 .f32 :=
  extractStridedSlice S2x1024x8x64 ![0, 0, 0, 0] K slices_S2x2048x8x64_S2x1024x8x64_0_0_0_0
def part1 (K : FVec Ideal S2x2048x8x64 .f32) : FVec Ideal S2x1024x8x64 .f32 :=
  extractStridedSlice S2x1024x8x64 ![0, 1024, 0, 0] K slices_S2x2048x8x64_S2x1024x8x64_0_1024_0_0

/-- The scores of a part. -/
def scores (q : FVec Ideal S2x128x8x64 .f32) (k : FVec Ideal S2x1024x8x64 .f32) : FVec Ideal S2x8x128x1024 .f32 :=
  mulf (Host.dotGeneral dot_S2x128x8x64_S2x1024x8x64_S2x8x128x1024_3_3_1_1_02_02 none q k)
    (broadcastInDim S2x8x128x1024 ![] bcast_S_S2x8x128x1024 (constant S_ .f32 0x3E000000#32))

/-- What is held before the first step: the maximum, the normalizer, the accumulator. -/
def max0 : FVec Ideal S2x8x128x1 .f32 := broadcastInDim S2x8x128x1 ![] bcast_S_S2x8x128x1 (constant S_ .f32 0xFF800000#32)
def norm0 : FVec Ideal S2x8x128x1 .f32 := broadcastInDim S2x8x128x1 ![] bcast_S_S2x8x128x1 (constant S_ .f32 0x00000000#32)
def acc0 : FVec Ideal S2x128x8x64 .f32 := broadcastInDim S2x128x8x64 ![] bcast_S_S2x128x8x64 (constant S_ .f32 0x00000000#32)

/-- The maximum after a step. -/
def nextMax (m : FVec Ideal S2x8x128x1 .f32) (s : FVec Ideal S2x8x128x1024 .f32) : FVec Ideal S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))

/-- The factor that rescales what was held. -/
def factor (m M : FVec Ideal S2x8x128x1 .f32) : FVec Ideal S2x8x128x1 .f32 := Host.exp (subf m M)

/-- The weights of a part's keys. -/
def weights (s : FVec Ideal S2x8x128x1024 .f32) (M : FVec Ideal S2x8x128x1 .f32) : FVec Ideal S2x8x128x1024 .f32 :=
  Host.exp (subf s (broadcastInDim S2x8x128x1024 ![0, 1, 2, 3] bcast_S2x8x128x1_S2x8x128x1024_0_1_2_3 M))

/-- The normalizer after a step. -/
def nextNorm (l f : FVec Ideal S2x8x128x1 .f32) (p : FVec Ideal S2x8x128x1024 .f32) : FVec Ideal S2x8x128x1 .f32 :=
  addf (mulf l f) (broadcastInDim S2x8x128x1 ![0, 1, 2] bcast_S2x8x128_S2x8x128x1_0_1_2
    (Host.reduceAdd p (constant S_ .f32 0x00000000#32) reducesTo_S2x8x128x1024_S2x8x128_d3 h_S_))

/-- A number of every query and head, for each coordinate. -/
def spread (f : FVec Ideal S2x8x128x1 .f32) : FVec Ideal S2x128x8x64 .f32 :=
  broadcastInDim S2x128x8x64 ![0, 1, 2, 3] bcast_S2x128x8x1_S2x128x8x64_0_1_2_3
    (transpose S2x128x8x1 [0, 2, 1, 3] f transposes_S2x8x128x1_S2x128x8x1_0_2_1_3)

/-- The accumulator after a step. -/
def nextAcc (o : FVec Ideal S2x128x8x64 .f32) (f : FVec Ideal S2x8x128x1 .f32) (v : FVec Ideal S2x1024x8x64 .f32)
    (p : FVec Ideal S2x8x128x1024 .f32) : FVec Ideal S2x128x8x64 .f32 :=
  addf (mulf o (spread f)) (transpose S2x128x8x64 [0, 3, 1, 2]
    (Host.dotGeneral dot_S2x1024x8x64_S2x8x128x1024_S2x8x64x128_1_3_3_2_02_01 none v p) transposes_S2x8x64x128_S2x128x8x64_0_3_1_2)

/-- The attention of all heads, projected. -/
def project (o : FVec Ideal S2x128x8x64 .f32) (l : FVec Ideal S2x8x128x1 .f32) (wo : FVec Ideal S512x512 .f32) :
    FVec Ideal S2x128x512 .f32 :=
  Host.dotGeneral dot_S2x128x512_S512x512_S2x128x512_2_0_01_1_n_n none
    (shapeCast _ (Host.divf o (spread l)) shapeCasts_S2x128x8x64_S2x128x512) wo

section steps
variable (s0 s1 : FVec Ideal S2x8x128x1024 .f32) (v0 v1 : FVec Ideal S2x1024x8x64 .f32)

def max1 := nextMax max0 s0
def norm1 := nextNorm norm0 (factor max0 (max1 s0)) (weights s0 (max1 s0))
def acc1 := nextAcc acc0 (factor max0 (max1 s0)) v0 (weights s0 (max1 s0))
def max2 := nextMax (max1 s0) s1
def norm2 := nextNorm (norm1 s0) (factor (max1 s0) (max2 s0 s1)) (weights s1 (max2 s0 s1))
def acc2 := nextAcc (acc1 s0 v0) (factor (max1 s0) (max2 s0 s1)) v1 (weights s1 (max2 s0 s1))

end steps

/-- The reference's result. -/
def answer (x : FVec Ideal S2x128x512 .f32) (w : FVec Ideal S512x512 .f32) (K V : FVec Ideal S2x2048x2x64 .f32)
    (wo : FVec Ideal S512x512 .f32) : FVec Ideal S2x128x512 .f32 :=
  project
    (acc2 (scores (queries x w) (part0 (wide K))) (scores (queries x w) (part1 (wide K))) (part0 (wide V)) (part1 (wide V)))
    (norm2 (scores (queries x w) (part0 (wide K))) (scores (queries x w) (part1 (wide K)))) wo

theorem result_eq (m : (ℓ : Loc nD τ sig) → Buf (Elt Ideal) ℓ) (c : Dev nD) :
    Value.res_main_v59 m c = answer (m ((c : Thread nD τ).loc main_arg0)) (m ((c : Thread nD τ).loc main_arg1))
      (m ((c : Thread nD τ).loc main_arg2)) (m ((c : Thread nD τ).loc main_arg3)) (m ((c : Thread nD τ).loc main_arg4)) := by
  unfold Value.res_main_v59 answer project acc2 norm2 max2 acc1 norm1 max1 nextMax nextNorm nextAcc factor weights spread max0
    norm0 acc0 scores queries wide part0 part1
  with_reducible rfl

/-! ## The steps at an index -/

theorem queries_apply (x : FVec Ideal S2x128x512 .f32) (w : FVec Ideal S512x512 .f32) (t : Fin 2) (a : Fin 128) (h : Fin 8)
    (d : Fin 64) : queries x w (ix4 t a h d) = Spec.query x w t h a d := by
  unfold Spec.query Spec.column
  pointwise [queries]
  exact Finset.sum_congr rfl fun e _ => congrArg (fun i => (x (ix3 t a e) : EReal) * w (ix2 e i)) (Fin.ext (by simp only []; omega))

theorem wide_apply (K : FVec Ideal S2x2048x2x64 .f32) (t : Fin 2) (j : Fin 2048) (h : Fin 8) (d : Fin 64) :
    wide K (ix4 t j h d) = K (ix4 t j (Spec.group h) d) := by
  unfold Spec.group
  pointwise [wide]

theorem part0_apply (K : FVec Ideal S2x2048x8x64 .f32) (t : Fin 2) (k : Fin 1024) (h : Fin 8) (d : Fin 64) :
    part0 K (ix4 t k h d) = K (ix4 t (Spec.stepKey 0 k) h d) := by
  unfold Spec.stepKey
  pointwise [part0]

theorem part1_apply (K : FVec Ideal S2x2048x8x64 .f32) (t : Fin 2) (k : Fin 1024) (h : Fin 8) (d : Fin 64) :
    part1 K (ix4 t k h d) = K (ix4 t (Spec.stepKey 1 k) h d) := by
  unfold Spec.stepKey
  pointwise [part1]

theorem scores_apply (q : FVec Ideal S2x128x8x64 .f32) (k : FVec Ideal S2x1024x8x64 .f32) (t : Fin 2) (h : Fin 8) (a : Fin 128)
    (j : Fin 1024) :
    scores q k (ix4 t h a j) = (∑ d : Fin 64, (q (ix4 t a h d) : EReal) * k (ix4 t j h d)) * Spec.scale := by
  unfold Spec.scale
  pointwise [scores]

theorem max0_apply (t : Fin 2) (h : Fin 8) (a : Fin 128) : (max0 (ix4 t h a 0) : EReal) = ⊥ := by
  pointwise [max0]
  exact Spec.neg_inf

theorem norm0_apply (t : Fin 2) (h : Fin 8) (a : Fin 128) : (norm0 (ix4 t h a 0) : EReal) = 0 := by
  pointwise [norm0]

theorem acc0_apply (t : Fin 2) (a : Fin 128) (h : Fin 8) (d : Fin 64) : (acc0 (ix4 t a h d) : EReal) = 0 := by
  pointwise [acc0]

/-- The last axis of the scores is reduced. -/
theorem reduces : S2x8x128x1024.Reduces [3] S2x8x128 := by decide

theorem lift_eq (t : Fin 2) (h : Fin 8) (a : Fin 128) (k : Fin 1024) : reduces.lift (ix3 t h a) k = ix4 t h a k := by
  funext b
  apply Fin.ext
  refine (Shape.Reduces.lift_val reduces (ix3 t h a) (k : Fin (S2x8x128x1024.size 3)) b).trans ?_
  fin_cases b <;> rfl

theorem rowMax_apply (s : FVec Ideal S2x8x128x1024 .f32) (t : Fin 2) (h : Fin 8) (a : Fin 128) :
    (Host.reduce (FloatOps.maximumf (F := Ideal) (φ := .f32)) s (constant (F := Ideal) S_ .f32 0xFF800000#32) reducesTo_S2x8x128x1024_S2x8x128_d3 h_S_ (ix3 t h a) : EReal)
      = Finset.univ.sup fun k : Fin 1024 => (s (ix4 t h a k) : EReal) := by
  rw [Host.reduce_eq_fold_single _ _ _ _ reduces]
  refine Eq.trans ?_ (Spec.fold_max _)
  rw [← Spec.neg_inf]
  refine congrArg (fun f => Finset.fold max (Ideal.ofBits FTy.f32 0xFF800000#32) f Finset.univ) (funext fun k => ?_)
  exact congrArg s (lift_eq t h a k)

theorem over_apply (m : FVec Ideal S2x8x128x1 .f32) (R : FVec Ideal S2x8x128 .f32) (t : Fin 2) (h : Fin 8)
    (a : Fin 128) :
    (maximumf m (broadcastInDim S2x8x128x1 ![0, 1, 2] bcast_S2x8x128_S2x8x128x1_0_1_2 R) (ix4 t h a 0) : EReal)
      = max (m (ix4 t h a 0) : EReal) (R (ix3 t h a)) := by
  pointwise

theorem nextMax_apply (m : FVec Ideal S2x8x128x1 .f32) (s : FVec Ideal S2x8x128x1024 .f32) (t : Fin 2) (h : Fin 8)
    (a : Fin 128) : (nextMax m s (ix4 t h a 0) : EReal)
      = max (m (ix4 t h a 0)) (Finset.univ.sup fun k : Fin 1024 => (s (ix4 t h a k) : EReal)) := by
  unfold nextMax
  rw [over_apply, rowMax_apply]

theorem factor_apply (m M : FVec Ideal S2x8x128x1 .f32) (t : Fin 2) (h : Fin 8) (a : Fin 128) :
    (factor m M (ix4 t h a 0) : EReal) = Ideal.exp ((m (ix4 t h a 0) : EReal) - M (ix4 t h a 0)) := by
  pointwise [factor]

theorem weights_apply (s : FVec Ideal S2x8x128x1024 .f32) (M : FVec Ideal S2x8x128x1 .f32) (t : Fin 2) (h : Fin 8)
    (a : Fin 128) (k : Fin 1024) :
    (weights s M (ix4 t h a k) : EReal) = Ideal.exp ((s (ix4 t h a k) : EReal) - M (ix4 t h a 0)) := by
  pointwise [weights]

theorem nextNorm_apply (l f : FVec Ideal S2x8x128x1 .f32) (p : FVec Ideal S2x8x128x1024 .f32) (t : Fin 2) (h : Fin 8)
    (a : Fin 128) : (nextNorm l f p (ix4 t h a 0) : EReal)
      = (l (ix4 t h a 0) : EReal) * f (ix4 t h a 0) + ∑ k : Fin 1024, (p (ix4 t h a k) : EReal) := by
  pointwise [nextNorm]

theorem nextAcc_apply (o : FVec Ideal S2x128x8x64 .f32) (f : FVec Ideal S2x8x128x1 .f32) (v : FVec Ideal S2x1024x8x64 .f32)
    (p : FVec Ideal S2x8x128x1024 .f32) (t : Fin 2) (h : Fin 8) (a : Fin 128) (d : Fin 64) :
    (nextAcc o f v p (ix4 t a h d) : EReal)
      = (o (ix4 t a h d) : EReal) * f (ix4 t h a 0)
        + ∑ k : Fin 1024, (v (ix4 t k h d) : EReal) * p (ix4 t h a k) := by
  pointwise [nextAcc, spread]

theorem project_apply (o : FVec Ideal S2x128x8x64 .f32) (l : FVec Ideal S2x8x128x1 .f32) (wo : FVec Ideal S512x512 .f32)
    (t : Fin 2) (a : Fin 128) (c : Fin 512) :
    (project o l wo (ix3 t a c) : EReal)
      = ∑ r : Fin 512, Ideal.div (o (ix4 t a ⟨r.val / 64, by omega⟩ ⟨r.val % 64, by omega⟩))
          (l (ix4 t ⟨r.val / 64, by omega⟩ a 0)) * (wo (ix2 r c) : EReal) := by
  pointwise [project, spread]

end Cert.ReferenceIdeal.Read

end
-- ==== Proof.ReferenceIdeal.Value.lean ====
/-
  What the reference computes: after the first step it holds what the first half of the keys gives, after the second what all
  keys give.
-/
module

public import proofs.«01_k».proof.Proof.ReferenceIdeal.Read

@[expose] public section

set_option maxRecDepth 16384

noncomputable section

namespace Cert.ReferenceIdeal.Read

open Idealize.ShloMosaic Cert.Softmax Cert.Spec
open Cert.ReferenceIdeal

variable (x : Act) (w : Wt) (K V : Keys)

/-- The scores that step `n` takes are those of its keys. -/
def IsScores (n : Fin 2) (s : FVec Ideal S2x8x128x1024 .f32) : Prop :=
  ∀ t h a k, (s (ix4 t h a k) : EReal) = (realScore x w K t h a (stepKey n k) : EReal)

/-- The values that step `n` takes are those of its keys. -/
def IsValues (n : Fin 2) (v : FVec Ideal S2x1024x8x64 .f32) : Prop :=
  ∀ t k h d, (v (ix4 t k h d) : EReal) = value V t h d (stepKey n k)

variable {x w K V}

theorem isScores0 (hs : FiniteScores x w K) : IsScores x w K 0 (scores (queries x w) (part0 (wide K))) := by
  intro t h a k
  rw [scores_apply, ← hs]
  unfold score
  refine congrArg (· * _) (Finset.sum_congr rfl fun d _ => ?_)
  rw [queries_apply, part0_apply, wide_apply]

theorem isScores1 (hs : FiniteScores x w K) : IsScores x w K 1 (scores (queries x w) (part1 (wide K))) := by
  intro t h a k
  rw [scores_apply, ← hs]
  unfold score
  refine congrArg (· * _) (Finset.sum_congr rfl fun d _ => ?_)
  rw [queries_apply, part1_apply, wide_apply]

theorem isValues0 : IsValues V 0 (part0 (wide V)) := by
  intro t k h d
  rw [part0_apply, wide_apply]
  rfl

theorem isValues1 : IsValues V 1 (part1 (wide V)) := by
  intro t k h d
  rw [part1_apply, wide_apply]
  rfl

section parts
variable {n : Fin 2} {s : FVec Ideal S2x8x128x1024 .f32} {v : FVec Ideal S2x1024x8x64 .f32}

theorem IsScores.sup (h : IsScores x w K n s) (t : Fin 2) (i : Fin 8) (a : Fin 128) :
    (Finset.univ.sup fun k : Fin 1024 => (s (ix4 t i a k) : EReal)) = top (realScore x w K t i a) (steps n) := by
  unfold top steps
  rw [Finset.sup_map]
  exact Finset.sup_congr rfl fun k _ => h t i a k

/-- A sum over a step's keys with the weights that the step takes. -/
theorem IsScores.sum (h : IsScores x w K n s) (M : FVec Ideal S2x8x128x1 .f32) (t : Fin 2) (i : Fin 8) (a : Fin 128)
    (u : Fin 2048 → EReal) :
    ∑ k : Fin 1024, u (stepKey n k) * (weights s M (ix4 t i a k) : EReal)
      = wsum (realScore x w K t i a) (steps n) (M (ix4 t i a 0)) u := by
  unfold wsum steps
  rw [Finset.sum_map]
  refine Finset.sum_congr rfl fun k _ => ?_
  rw [weights_apply, h]
  rfl

theorem IsScores.norm (h : IsScores x w K n s) (l f M : FVec Ideal S2x8x128x1 .f32) (t : Fin 2) (i : Fin 8) (a : Fin 128) :
    (nextNorm l f (weights s M) (ix4 t i a 0) : EReal) = (l (ix4 t i a 0) : EReal) * f (ix4 t i a 0)
      + wsum (realScore x w K t i a) (steps n) (M (ix4 t i a 0)) fun _ => 1 := by
  rw [nextNorm_apply, ← h.sum M t i a fun _ => 1]
  simp only [one_mul]

theorem IsScores.acc (h : IsScores x w K n s) (hv : IsValues V n v) (o : FVec Ideal S2x128x8x64 .f32)
    (f M : FVec Ideal S2x8x128x1 .f32) (t : Fin 2) (i : Fin 8) (a : Fin 128) (d : Fin 64) :
    (nextAcc o f v (weights s M) (ix4 t a i d) : EReal) = (o (ix4 t a i d) : EReal) * f (ix4 t i a 0)
      + wsum (realScore x w K t i a) (steps n) (M (ix4 t i a 0)) (value V t i d) := by
  rw [nextAcc_apply, ← h.sum M t i a (value V t i d)]
  exact congrArg (_ + ·) (Finset.sum_congr rfl fun k _ => congrArg (· * _) (hv t k i d))

end parts

section steps
variable {s0 s1 : FVec Ideal S2x8x128x1024 .f32} {v0 v1 : FVec Ideal S2x1024x8x64 .f32}
  (h0 : IsScores x w K 0 s0) (h1 : IsScores x w K 1 s1) (hv0 : IsValues V 0 v0) (hv1 : IsValues V 1 v1)
  (t : Fin 2) (i : Fin 8) (a : Fin 128)
include h0

theorem max1_apply : (max1 s0 (ix4 t i a 0) : EReal) = top (realScore x w K t i a) (steps 0) := by
  unfold max1
  rw [nextMax_apply, max0_apply, h0.sup]
  exact max_eq_right bot_le

theorem norm1_apply : (norm1 s0 (ix4 t i a 0) : EReal)
    = wsum (realScore x w K t i a) (steps 0) (top (realScore x w K t i a) (steps 0)) fun _ => 1 := by
  unfold norm1
  rw [h0.norm, norm0_apply, max1_apply h0, zero_mul, zero_add]

include hv0 in
theorem acc1_apply (d : Fin 64) : (acc1 s0 v0 (ix4 t a i d) : EReal)
    = wsum (realScore x w K t i a) (steps 0) (top (realScore x w K t i a) (steps 0)) (value V t i d) := by
  unfold acc1
  rw [h0.acc hv0, acc0_apply, max1_apply h0, zero_mul, zero_add]

include h1

theorem max2_apply : (max2 s0 s1 (ix4 t i a 0) : EReal) = top (realScore x w K t i a) (steps 0 ∪ steps 1) := by
  unfold max2
  rw [nextMax_apply, max1_apply h0, h1.sup, top_union]

theorem norm2_apply : (norm2 s0 s1 (ix4 t i a 0) : EReal)
    = wsum (realScore x w K t i a) (steps 0 ∪ steps 1) (top (realScore x w K t i a) (steps 0 ∪ steps 1)) fun _ => 1 := by
  unfold norm2
  rw [h1.norm, norm1_apply h0, factor_apply, max1_apply h0, max2_apply h0 h1]
  exact extend _ (steps_nonempty 0) steps_disjoint _

include hv0 hv1 in
theorem acc2_apply (d : Fin 64) : (acc2 s0 s1 v0 v1 (ix4 t a i d) : EReal)
    = wsum (realScore x w K t i a) (steps 0 ∪ steps 1) (top (realScore x w K t i a) (steps 0 ∪ steps 1)) (value V t i d) := by
  unfold acc2
  rw [h1.acc hv1, acc1_apply h0 hv0, factor_apply, max1_apply h0, max2_apply h0 h1]
  exact extend _ (steps_nonempty 0) steps_disjoint _

end steps

/-- The reference's result. -/
theorem answer_apply (wo : Wt) (hs : FiniteScores x w K) (t : Fin 2) (a : Fin 128) (c : Fin 512) :
    (answer x w K V wo (ix3 t a c) : EReal) = output x w K V wo t a c := by
  unfold answer output attention
  rw [project_apply]
  refine Finset.sum_congr rfl fun r _ => congrArg (· * _) ?_
  rw [norm2_apply (isScores0 hs) (isScores1 hs), acc2_apply (isScores0 hs) (isScores1 hs) isValues0 isValues1, steps_union]

end Cert.ReferenceIdeal.Read

end
-- ==== Proof.Agree.lean ====
/-
  Kernel and reference agree: what the precondition says of the inputs, how a device's keys and values lie in those of all
  devices, and the two results compared index by index.
-/
module

public import proofs.«01_k».proof.Defs
public import proofs.«01_k».proof.Proof.KernelIdeal.Ends
public import proofs.«01_k».proof.Proof.KernelIdeal.Value
public import proofs.«01_k».proof.Proof.ReferenceIdeal.Value
public import Idealize.ShloMosaic.Lib.LayoutAt

@[expose] public section

set_option maxRecDepth 16384

noncomputable section

namespace Cert.Proof

open Idealize.ShloMosaic Idealize.ShloMosaic.TcCoe Idealize.SL.Sem Cert.Spec

/-! ## The precondition -/

instance factsPreKernel : Cert.Pre_finite_operands_KernelIdeal.Facts := ⟨by decide, by decide, by decide⟩
instance factsPreReference : Cert.Pre_finite_operands_ReferenceIdeal.Facts := ⟨by decide, by decide, by decide⟩

/-- What is less than `+∞` in magnitude is a real number. -/
theorem isReal_of_abs (x : Ideal .f32) (h : FloatOps.cmpf .olt (FloatOps.hostAbsf x)
    (FloatOps.ofBits (F := Ideal) .f32 0x7F800000#32) = 1#1) : IsReal x := by
  have h' : Ideal.cmp .olt (max (x : EReal) (-(x : EReal))) (Ideal.ofBits .f32 0x7F800000#32) = 1#1 := h
  rw [pos_inf] at h'
  induction x using EReal.rec with
  | bot => simp [Ideal.cmp] at h'
  | top => simp [Ideal.cmp] at h'
  | coe r => exact ⟨r, rfl⟩

section finite
variable {m : (ℓ : Loc Cert.KernelIdeal.nD Cert.KernelIdeal.τ Cert.KernelIdeal.sig) → Buf (Elt Ideal) ℓ}
  (h : Pre_KernelIdeal_finite_operands_KernelIdeal m) (c : Dev Cert.KernelIdeal.nD)
include h

theorem finite_x (i : Cert.KernelIdeal.S2x128x512.Idx) :
    IsReal ((KernelIdeal.Proto.args m).x c i) := isReal_of_abs _ (congrFun (h c).1 i)
theorem finite_w (i : Cert.KernelIdeal.S512x512.Idx) :
    IsReal ((KernelIdeal.Proto.args m).wq c i) := isReal_of_abs _ (congrFun (h c).2.1 i)
theorem finite_k (i : Cert.KernelIdeal.S2x128x2x64.Idx) :
    IsReal ((KernelIdeal.Proto.args m).k c i) := isReal_of_abs _ (congrFun (h c).2.2 i)

end finite

/-! ## Blocks -/

/-- A device's block of the keys or values of all devices, at an index. -/
theorem block_apply (K : Keys) (c : Fin 16) (t : Fin 2) (i : Fin 128) (g : Fin 2) (d : Fin 64) :
    (Layout.block ⟨4, ![2, 128, 2, 64]⟩ ⟨4, ![2, 2048, 2, 64]⟩ 1 16 c K) (ix4 t i g d) = K (ix4 t (key c i) g d) := by
  rw [Layout.block_apply]
  refine congrArg K ?_
  unfold key
  shard_ext

/-! ## The two results -/

theorem agree (m : (ℓ : Loc Cert.KernelIdeal.nD Cert.KernelIdeal.τ Cert.KernelIdeal.sig) → Buf (Elt Ideal) ℓ)
    (x : Act) (w : Wt) (K V : Keys) (wo : Wt) (h : Pre_KernelIdeal_finite_operands_KernelIdeal m)
    (hx : ∀ c, (KernelIdeal.Proto.args m).x c = x) (hw : ∀ c, (KernelIdeal.Proto.args m).wq c = w)
    (hk : ∀ c, (KernelIdeal.Proto.args m).k c = Layout.block ⟨4, ![2, 128, 2, 64]⟩ ⟨4, ![2, 2048, 2, 64]⟩ 1 16 c K)
    (hv : ∀ c, (KernelIdeal.Proto.args m).v c = Layout.block ⟨4, ![2, 128, 2, 64]⟩ ⟨4, ![2, 2048, 2, 64]⟩ 1 16 c V)
    (hwo : ∀ c, (KernelIdeal.Proto.args m).wo c = wo) (c : Dev Cert.KernelIdeal.nD) :
    KernelIdeal.Proto.result (KernelIdeal.Proto.args m) c = ReferenceIdeal.Read.answer x w K V wo := by
  have hs : FiniteScores x w K := by
    refine finiteScores x w K (fun i => ?_) (fun i => ?_) (fun i => ?_)
    · rw [← hx 0]; exact finite_x h 0 i
    · rw [← hw 0]; exact finite_w h 0 i
    · obtain ⟨t, j, g, d, rfl⟩ : ∃ (t : Fin 2) (j : Fin 2048) (g : Fin 2) (d : Fin 64), i = ix4 t j g d :=
        ⟨i 0, i 1, i 2, i 3, eq_ix4 i⟩
      have e : key ⟨j.val / 128, by omega⟩ ⟨j.val % 128, by omega⟩ = j :=
        Fin.ext (by show 128 * (j.val / 128) + j.val % 128 = j.val; omega)
      have := finite_k h ⟨j.val / 128, by show j.val / 128 < 16; omega⟩ (ix4 t ⟨j.val % 128, by omega⟩ g d)
      rw [hk, block_apply, e] at this
      exact this
  funext i
  obtain ⟨t, a, b, rfl⟩ : ∃ (t : Fin 2) (a : Fin 128) (b : Fin 512), i = ix3 t a b := ⟨i 0, i 1, i 2, eq_ix3 i⟩
  refine (KernelIdeal.Proto.result_apply _ wo hs hx hw hwo (fun c t i g d => ?_) (fun c t i g d => ?_) c t a b).trans
    (ReferenceIdeal.Read.answer_apply wo hs t a b).symm
  · rw [hk]; exact block_apply K c t i g d
  · rw [hv]; exact block_apply V c t i g d

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel as printed ends with its arguments unchanged and every counter at zero. -/
theorem frame_kernel : Cert.quiescent_Kernel := fun m g _ =>
  θ_run_mono (Cert.Kernel.Proto.run m g) fun _ h => ⟨fun c => (h.1 c).2, h.2⟩

/-- So does its idealization. -/
theorem frame_ideal : Cert.quiescent_KernelIdeal := fun m g _ =>
  θ_run_mono (Cert.KernelIdeal.Proto.run m g) fun _ h => ⟨fun c => (h.1 c).2, h.2⟩

/-- The reference ends with its arguments unchanged; it has no semaphore. -/
theorem frame_reference : Cert.quiescent_ReferenceIdeal := fun m g _ =>
  θ_run_mono (Cert.ReferenceIdeal.Value.run m g) fun r h => ⟨fun c => (h c).2, sem_eq_zero_of_no_sems (by decide) r.2⟩

/-- Where the activations, the query weights and the keys are finite, every device ends with the reference's result. -/
theorem algebraic : Cert.algebraic_KernelIdeal_ReferenceIdeal_pre_finite_operands_KernelIdeal := fun m g m' g' hp h =>
  ⟨Cert.ReferenceIdeal.Value.res_main_v59 m' 0,
    θ_run_mono (Cert.KernelIdeal.Proto.run m g) fun _ r => fun c => ⟨(r.1 c).1.trans
      ((agree m _ _ _ _ _ hp (fun c => (h c).1) (fun c => (h c).2.1) (fun c => (h c).2.2.1) (fun c => (h c).2.2.2.1)
        (fun c => (h c).2.2.2.2) c).trans (Cert.ReferenceIdeal.Read.result_eq m' 0).symm), (r.1 c).2⟩,
    θ_run_mono (Cert.ReferenceIdeal.Value.run m' g') fun _ r => r 0⟩

theorem claim : Cert.Claim := ⟨Cert.Kernel.Gen.facts, Cert.KernelIdeal.Gen.facts, Cert.ReferenceIdeal.Gen.facts,
  factsPreKernel, factsPreReference, frame_kernel, frame_ideal, fun m g _ => frame_ideal m g trivial, frame_reference,
  fun m g _ => frame_reference m g trivial, trivial, algebraic⟩

end Cert.Proof

end
